-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 8192]⟩ ⟨2, ![8192, 8192]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 512]⟩ ⟨2, ![8192, 4096]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![8192, 512]⟩ ⟨2, ![8192, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x8192 : Shape := ⟨2, ![1024, 8192]⟩
abbrev S8192x512 : Shape := ⟨2, ![8192, 512]⟩
abbrev S8x4096x512 : Shape := ⟨3, ![8, 4096, 512]⟩
abbrev S7x1024x512 : Shape := ⟨3, ![7, 1024, 512]⟩
abbrev S1024x512 : Shape := ⟨2, ![1024, 512]⟩
abbrev S2x1024x512 : Shape := ⟨3, ![2, 1024, 512]⟩
abbrev S4 : Shape := ⟨1, ![4]⟩
abbrev S7 : Shape := ⟨1, ![7]⟩
abbrev S5 : Shape := ⟨1, ![5]⟩
abbrev S_ : Shape := ⟨0, ![]⟩
abbrev S1 : Shape := ⟨1, ![1]⟩
abbrev S1x4096x512 : Shape := ⟨3, ![1, 4096, 512]⟩
abbrev S4096x512 : Shape := ⟨2, ![4096, 512]⟩
abbrev S1x1024x512 : Shape := ⟨3, ![1, 1024, 512]⟩

abbrev nBuf : Space → Nat
  | .hbm => 8
  | .vmem => 4
  | .smem => 0
  | _ => 0

abbrev bufTy : (tb : Table) → Fin (tcTables nBuf tb) → BufTy
  | .hbm, ⟨0, _⟩ => ⟨S1024x8192, .f32⟩
  | .hbm, ⟨1, _⟩ => ⟨S8192x512, .f32⟩
  | .hbm, ⟨2, _⟩ => ⟨S8192x512, .f32⟩
  | .hbm, ⟨3, _⟩ => ⟨S8x4096x512, .f32⟩
  | .hbm, ⟨4, _⟩ => ⟨S8x4096x512, .f32⟩
  | .hbm, ⟨5, _⟩ => ⟨S8x4096x512, .f32⟩
  | .hbm, ⟨6, _⟩ => ⟨S8x4096x512, .f32⟩
  | .hbm, ⟨7, _⟩ => ⟨S7x1024x512, .f32⟩
  | .local _ .vmem, ⟨0, _⟩ => ⟨S1024x8192, .f32⟩
  | .local _ .vmem, ⟨1, _⟩ => ⟨S8192x512, .f32⟩
  | .local _ .vmem, ⟨2, _⟩ => ⟨S1024x512, .f32⟩
  | .local _ .vmem, ⟨3, _⟩ => ⟨S2x1024x512, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v1_4 : Ref sig .tc := ⟨.hbm, 6, rfl⟩
abbrev main_v1_5 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_17 : BitVec 32 := 1#32
  let v35 : BitVec 32 := Scalar.addi v2 c1_i32_17
  let c8_i32_18 : BitVec 32 := 8#32
  let c0_i32_19 : BitVec 32 := 0#32
  let v36 : BitVec 1 := Scalar.cmpi .eq c8_i32_18 c0_i32_19
  let c1_i32_20 : BitVec 32 := 1#32
  let v37 : BitVec 32 := Scalar.select v36 c1_i32_20 c8_i32_18
  let v38 : BitVec 32 := Scalar.remsi v35 v37
  let c0_i32_22 : BitVec 32 := 0#32
  let v40 : BitVec 1 := Scalar.cmpi .slt v38 c0_i32_22
  let c0_i32_23 : BitVec 32 := 0#32
  let v41 : BitVec 1 := Scalar.cmpi .slt v37 c0_i32_23
  let v42 : BitVec 1 := Scalar.xori v40 v41
  let c0_i32_21 : BitVec 32 := 0#32
  let v39 : BitVec 1 := Scalar.cmpi .ne v38 c0_i32_21
  let v43 : BitVec 1 := Scalar.andi v42 v39
  let v44 : BitVec 32 := Scalar.addi v38 v37
  let v45 : BitVec 32 := Scalar.select v43 v44 v38
  let c1_i32_25 : BitVec 32 := 1#32
  let v46 : BitVec 32 := Scalar.muli v45 c1_i32_25
  let v47 : BitVec 32 := Scalar.addi c0_i32_26 v46
  v47.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v48 : BitVec 32 := Scalar.addi v2 c2_i32
  let c8_i32_27 : BitVec 32 := 8#32
  let c0_i32_28 : BitVec 32 := 0#32
  let v49 : BitVec 1 := Scalar.cmpi .eq c8_i32_27 c0_i32_28
  let c1_i32_29 : BitVec 32 := 1#32
  let v50 : BitVec 32 := Scalar.select v49 c1_i32_29 c8_i32_27
  let v51 : BitVec 32 := Scalar.remsi v48 v50
  let c0_i32_31 : BitVec 32 := 0#32
  let v53 : BitVec 1 := Scalar.cmpi .slt v51 c0_i32_31
  let c0_i32_32 : BitVec 32 := 0#32
  let v54 : BitVec 1 := Scalar.cmpi .slt v50 c0_i32_32
  let v55 : BitVec 1 := Scalar.xori v53 v54
  let c0_i32_30 : BitVec 32 := 0#32
  let v52 : BitVec 1 := Scalar.cmpi .ne v51 c0_i32_30
  let v56 : BitVec 1 := Scalar.andi v55 v52
  let v57 : BitVec 32 := Scalar.addi v51 v50
  let v58 : BitVec 32 := Scalar.select v56 v57 v51
  let c1_i32_34 : BitVec 32 := 1#32
  let v59 : BitVec 32 := Scalar.muli v58 c1_i32_34
  let v60 : BitVec 32 := Scalar.addi c0_i32_35 v59
  v60.toNat
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v61 : BitVec 32 := Scalar.addi v2 c3_i32
  let c8_i32_36 : BitVec 32 := 8#32
  let c0_i32_37 : BitVec 32 := 0#32
  let v62 : BitVec 1 := Scalar.cmpi .eq c8_i32_36 c0_i32_37
  let c1_i32_38 : BitVec 32 := 1#32
  let v63 : BitVec 32 := Scalar.select v62 c1_i32_38 c8_i32_36
  let v64 : BitVec 32 := Scalar.remsi v61 v63
  let c0_i32_40 : BitVec 32 := 0#32
  let v66 : BitVec 1 := Scalar.cmpi .slt v64 c0_i32_40
  let c0_i32_41 : BitVec 32 := 0#32
  let v67 : BitVec 1 := Scalar.cmpi .slt v63 c0_i32_41
  let v68 : BitVec 1 := Scalar.xori v66 v67
  let c0_i32_39 : BitVec 32 := 0#32
  let v65 : BitVec 1 := Scalar.cmpi .ne v64 c0_i32_39
  let v69 : BitVec 1 := Scalar.andi v68 v65
  let v70 : BitVec 32 := Scalar.addi v64 v63
  let v71 : BitVec 32 := Scalar.select v69 v70 v64
  let c1_i32_43 : BitVec 32 := 1#32
  let v72 : BitVec 32 := Scalar.muli v71 c1_i32_43
  let v73 : BitVec 32 := Scalar.addi c0_i32_44 v72
  v73.toNat
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_45 : BitVec 32 := 4#32
  let v74 : BitVec 32 := Scalar.addi v2 c4_i32_45
  let c8_i32_46 : BitVec 32 := 8#32
  let c0_i32_47 : BitVec 32 := 0#32
  let v75 : BitVec 1 := Scalar.cmpi .eq c8_i32_46 c0_i32_47
  let c1_i32_48 : BitVec 32 := 1#32
  let v76 : BitVec 32 := Scalar.select v75 c1_i32_48 c8_i32_46
  let v77 : BitVec 32 := Scalar.remsi v74 v76
  let c0_i32_50 : BitVec 32 := 0#32
  let v79 : BitVec 1 := Scalar.cmpi .slt v77 c0_i32_50
  let c0_i32_51 : BitVec 32 := 0#32
  let v80 : BitVec 1 := Scalar.cmpi .slt v76 c0_i32_51
  let v81 : BitVec 1 := Scalar.xori v79 v80
  let c0_i32_49 : BitVec 32 := 0#32
  let v78 : BitVec 1 := Scalar.cmpi .ne v77 c0_i32_49
  let v82 : BitVec 1 := Scalar.andi v81 v78
  let v83 : BitVec 32 := Scalar.addi v77 v76
  let v84 : BitVec 32 := Scalar.select v82 v83 v77
  let c1_i32_53 : BitVec 32 := 1#32
  let v85 : BitVec 32 := Scalar.muli v84 c1_i32_53
  let v86 : BitVec 32 := Scalar.addi c0_i32_54 v85
  v86.toNat
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v87 : BitVec 32 := Scalar.addi v2 c5_i32
  let c8_i32_55 : BitVec 32 := 8#32
  let c0_i32_56 : BitVec 32 := 0#32
  let v88 : BitVec 1 := Scalar.cmpi .eq c8_i32_55 c0_i32_56
  let c1_i32_57 : BitVec 32 := 1#32
  let v89 : BitVec 32 := Scalar.select v88 c1_i32_57 c8_i32_55
  let v90 : BitVec 32 := Scalar.remsi v87 v89
  let c0_i32_59 : BitVec 32 := 0#32
  let v92 : BitVec 1 := Scalar.cmpi .slt v90 c0_i32_59
  let c0_i32_60 : BitVec 32 := 0#32
  let v93 : BitVec 1 := Scalar.cmpi .slt v89 c0_i32_60
  let v94 : BitVec 1 := Scalar.xori v92 v93
  let c0_i32_58 : BitVec 32 := 0#32
  let v91 : BitVec 1 := Scalar.cmpi .ne v90 c0_i32_58
  let v95 : BitVec 1 := Scalar.andi v94 v91
  let v96 : BitVec 32 := Scalar.addi v90 v89
  let v97 : BitVec 32 := Scalar.select v95 v96 v90
  let c1_i32_62 : BitVec 32 := 1#32
  let v98 : BitVec 32 := Scalar.muli v97 c1_i32_62
  let v99 : BitVec 32 := Scalar.addi c0_i32_63 v98
  v99.toNat
def k0_dev6 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v100 : BitVec 32 := Scalar.addi v2 c6_i32
  let c8_i32_64 : BitVec 32 := 8#32
  let c0_i32_65 : BitVec 32 := 0#32
  let v101 : BitVec 1 := Scalar.cmpi .eq c8_i32_64 c0_i32_65
  let c1_i32_66 : BitVec 32 := 1#32
  let v102 : BitVec 32 := Scalar.select v101 c1_i32_66 c8_i32_64
  let v103 : BitVec 32 := Scalar.remsi v100 v102
  let c0_i32_68 : BitVec 32 := 0#32
  let v105 : BitVec 1 := Scalar.cmpi .slt v103 c0_i32_68
  let c0_i32_69 : BitVec 32 := 0#32
  let v106 : BitVec 1 := Scalar.cmpi .slt v102 c0_i32_69
  let v107 : BitVec 1 := Scalar.xori v105 v106
  let c0_i32_67 : BitVec 32 := 0#32
  let v104 : BitVec 1 := Scalar.cmpi .ne v103 c0_i32_67
  let v108 : BitVec 1 := Scalar.andi v107 v104
  let v109 : BitVec 32 := Scalar.addi v103 v102
  let v110 : BitVec 32 := Scalar.select v108 v109 v103
  let c1_i32_71 : BitVec 32 := 1#32
  let v111 : BitVec 32 := Scalar.muli v110 c1_i32_71
  let v112 : BitVec 32 := Scalar.addi c0_i32_72 v111
  v112.toNat
def k0_dev7 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v113 : BitVec 32 := Scalar.addi v2 c7_i32
  let c8_i32_73 : BitVec 32 := 8#32
  let c0_i32_74 : BitVec 32 := 0#32
  let v114 : BitVec 1 := Scalar.cmpi .eq c8_i32_73 c0_i32_74
  let c1_i32_75 : BitVec 32 := 1#32
  let v115 : BitVec 32 := Scalar.select v114 c1_i32_75 c8_i32_73
  let v116 : BitVec 32 := Scalar.remsi v113 v115
  let c0_i32_77 : BitVec 32 := 0#32
  let v118 : BitVec 1 := Scalar.cmpi .slt v116 c0_i32_77
  let c0_i32_78 : BitVec 32 := 0#32
  let v119 : BitVec 1 := Scalar.cmpi .slt v115 c0_i32_78
  let v120 : BitVec 1 := Scalar.xori v118 v119
  let c0_i32_76 : BitVec 32 := 0#32
  let v117 : BitVec 1 := Scalar.cmpi .ne v116 c0_i32_76
  let v121 : BitVec 1 := Scalar.andi v120 v117
  let v122 : BitVec 32 := Scalar.addi v116 v115
  let v123 : BitVec 32 := Scalar.select v121 v122 v116
  let c1_i32_80 : BitVec 32 := 1#32
  let v124 : BitVec 32 := Scalar.muli v123 c1_i32_80
  let v125 : BitVec 32 := Scalar.addi c0_i32_81 v124
  v125.toNat
def k0_off1 (d0 : Dev nD) (c0_i32_83 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v126 : BitVec 32 := Scalar.subi v5 c0_i32_83
  let c8_i32_84 : BitVec 32 := 8#32
  let c0_i32_85 : BitVec 32 := 0#32
  let v127 : BitVec 1 := Scalar.cmpi .eq c8_i32_84 c0_i32_85
  let c1_i32_86 : BitVec 32 := 1#32
  let v128 : BitVec 32 := Scalar.select v127 c1_i32_86 c8_i32_84
  let v129 : BitVec 32 := Scalar.remsi v126 v128
  let c0_i32_88 : BitVec 32 := 0#32
  let v131 : BitVec 1 := Scalar.cmpi .slt v129 c0_i32_88
  let c0_i32_89 : BitVec 32 := 0#32
  let v132 : BitVec 1 := Scalar.cmpi .slt v128 c0_i32_89
  let v133 : BitVec 1 := Scalar.xori v131 v132
  let c0_i32_87 : BitVec 32 := 0#32
  let v130 : BitVec 1 := Scalar.cmpi .ne v129 c0_i32_87
  let v134 : BitVec 1 := Scalar.andi v133 v130
  let v135 : BitVec 32 := Scalar.addi v129 v128
  let v136 : BitVec 32 := Scalar.select v134 v135 v129
  let c4_i32_90 : BitVec 32 := 4#32
  let v137 : BitVec 1 := Scalar.cmpi .slt v136 c4_i32_90
  let c11_i32_91 : BitVec 32 := 11#32
  let v138 : BitVec 32 := Scalar.subi c11_i32_91 v136
  let v139 : BitVec 32 := Scalar.select v137 v136 v138
  let c0_i32_159 : BitVec 32 := 0#32
  let c0_i32_160 : BitVec 32 := 0#32
  ![v139.toNat, 0, 0]
def k0_dev8 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_157 : BitVec 32 := 1#32
  let v238 : BitVec 32 := Scalar.muli v19 c1_i32_157
  let v239 : BitVec 32 := Scalar.addi c0_i32_158 v238
  v239.toNat
def k0_dev9 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_165 : BitVec 32 := 1#32
  let v247 : BitVec 32 := Scalar.muli v19 c1_i32_165
  let v248 : BitVec 32 := Scalar.addi c0_i32_166 v247
  v248.toNat
def k0_off2 (d0 : Dev nD) (c0_i32_92 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v140 : BitVec 32 := Scalar.addi v5 c0_i32_92
  let c8_i32_93 : BitVec 32 := 8#32
  let c0_i32_94 : BitVec 32 := 0#32
  let v141 : BitVec 1 := Scalar.cmpi .eq c8_i32_93 c0_i32_94
  let c1_i32_95 : BitVec 32 := 1#32
  let v142 : BitVec 32 := Scalar.select v141 c1_i32_95 c8_i32_93
  let v143 : BitVec 32 := Scalar.remsi v140 v142
  let c0_i32_97 : BitVec 32 := 0#32
  let v145 : BitVec 1 := Scalar.cmpi .slt v143 c0_i32_97
  let c0_i32_98 : BitVec 32 := 0#32
  let v146 : BitVec 1 := Scalar.cmpi .slt v142 c0_i32_98
  let v147 : BitVec 1 := Scalar.xori v145 v146
  let c0_i32_96 : BitVec 32 := 0#32
  let v144 : BitVec 1 := Scalar.cmpi .ne v143 c0_i32_96
  let v148 : BitVec 1 := Scalar.andi v147 v144
  let v149 : BitVec 32 := Scalar.addi v143 v142
  let v150 : BitVec 32 := Scalar.select v148 v149 v143
  let c4_i32_99 : BitVec 32 := 4#32
  let v151 : BitVec 1 := Scalar.cmpi .slt v150 c4_i32_99
  let c11_i32_100 : BitVec 32 := 11#32
  let v152 : BitVec 32 := Scalar.subi c11_i32_100 v150
  let v153 : BitVec 32 := Scalar.select v151 v150 v152
  let c0_i32_174 : BitVec 32 := 0#32
  let c0_i32_175 : BitVec 32 := 0#32
  ![v153.toNat, 0, 0]
def k0_dev10 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_172 : BitVec 32 := 1#32
  let v256 : BitVec 32 := Scalar.muli v33 c1_i32_172
  let v257 : BitVec 32 := Scalar.addi c0_i32_173 v256
  v257.toNat
def k0_dev11 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_180 : BitVec 32 := 1#32
  let v265 : BitVec 32 := Scalar.muli v33 c1_i32_180
  let v266 : BitVec 32 := Scalar.addi c0_i32_181 v265
  v266.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v310 : BitVec 32 := Scalar.muli v2 c1024_i32
  let c0_i32_216 : BitVec 32 := 0#32
  ![v310.toNat, 0]
def k0_dev12 (d0 : Dev nD) : Nat :=
  let c0_i32_252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_251 : BitVec 32 := 1#32
  let v342 : BitVec 32 := Scalar.muli v19 c1_i32_251
  let v343 : BitVec 32 := Scalar.addi c0_i32_252 v342
  v343.toNat
def k0_dev13 (d0 : Dev nD) : Nat :=
  let c0_i32_260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_259 : BitVec 32 := 1#32
  let v352 : BitVec 32 := Scalar.muli v19 c1_i32_259
  let v353 : BitVec 32 := Scalar.addi c0_i32_260 v352
  v353.toNat
def k0_dev14 (d0 : Dev nD) : Nat :=
  let c0_i32_268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_267 : BitVec 32 := 1#32
  let v362 : BitVec 32 := Scalar.muli v33 c1_i32_267
  let v363 : BitVec 32 := Scalar.addi c0_i32_268 v362
  v363.toNat
def k0_dev15 (d0 : Dev nD) : Nat :=
  let c0_i32_276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_275 : BitVec 32 := 1#32
  let v372 : BitVec 32 := Scalar.muli v33 c1_i32_275
  let v373 : BitVec 32 := Scalar.addi c0_i32_276 v372
  v373.toNat
def k0_dev16 (d0 : Dev nD) : Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_281 : BitVec 32 := 1#32
  let v382 : BitVec 32 := Scalar.subi v5 c1_i32_281
  let c8_i32_282 : BitVec 32 := 8#32
  let c0_i32_283 : BitVec 32 := 0#32
  let v383 : BitVec 1 := Scalar.cmpi .eq c8_i32_282 c0_i32_283
  let c1_i32_284 : BitVec 32 := 1#32
  let v384 : BitVec 32 := Scalar.select v383 c1_i32_284 c8_i32_282
  let v385 : BitVec 32 := Scalar.remsi v382 v384
  let c0_i32_286 : BitVec 32 := 0#32
  let v387 : BitVec 1 := Scalar.cmpi .slt v385 c0_i32_286
  let c0_i32_287 : BitVec 32 := 0#32
  let v388 : BitVec 1 := Scalar.cmpi .slt v384 c0_i32_287
  let v389 : BitVec 1 := Scalar.xori v387 v388
  let c0_i32_285 : BitVec 32 := 0#32
  let v386 : BitVec 1 := Scalar.cmpi .ne v385 c0_i32_285
  let v390 : BitVec 1 := Scalar.andi v389 v386
  let v391 : BitVec 32 := Scalar.addi v385 v384
  let v392 : BitVec 32 := Scalar.select v390 v391 v385
  let c4_i32_288 : BitVec 32 := 4#32
  let v393 : BitVec 1 := Scalar.cmpi .slt v392 c4_i32_288
  let c11_i32_289 : BitVec 32 := 11#32
  let v394 : BitVec 32 := Scalar.subi c11_i32_289 v392
  let v395 : BitVec 32 := Scalar.select v393 v392 v394
  let c1_i32_340 : BitVec 32 := 1#32
  let v449 : BitVec 32 := Scalar.muli v395 c1_i32_340
  let v450 : BitVec 32 := Scalar.addi c0_i32_341 v449
  v450.toNat
def k0_dev17 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32_345 : BitVec 32 := 7#32
  let v458 : BitVec 32 := Scalar.subi v5 c7_i32_345
  let c8_i32_346 : BitVec 32 := 8#32
  let c0_i32_347 : BitVec 32 := 0#32
  let v459 : BitVec 1 := Scalar.cmpi .eq c8_i32_346 c0_i32_347
  let c1_i32_348 : BitVec 32 := 1#32
  let v460 : BitVec 32 := Scalar.select v459 c1_i32_348 c8_i32_346
  let v461 : BitVec 32 := Scalar.remsi v458 v460
  let c0_i32_350 : BitVec 32 := 0#32
  let v463 : BitVec 1 := Scalar.cmpi .slt v461 c0_i32_350
  let c0_i32_351 : BitVec 32 := 0#32
  let v464 : BitVec 1 := Scalar.cmpi .slt v460 c0_i32_351
  let v465 : BitVec 1 := Scalar.xori v463 v464
  let c0_i32_349 : BitVec 32 := 0#32
  let v462 : BitVec 1 := Scalar.cmpi .ne v461 c0_i32_349
  let v466 : BitVec 1 := Scalar.andi v465 v462
  let v467 : BitVec 32 := Scalar.addi v461 v460
  let v468 : BitVec 32 := Scalar.select v466 v467 v461
  let c4_i32_352 : BitVec 32 := 4#32
  let v469 : BitVec 1 := Scalar.cmpi .slt v468 c4_i32_352
  let c11_i32_353 : BitVec 32 := 11#32
  let v470 : BitVec 32 := Scalar.subi c11_i32_353 v468
  let v471 : BitVec 32 := Scalar.select v469 v468 v470
  let c1_i32_404 : BitVec 32 := 1#32
  let v525 : BitVec 32 := Scalar.muli v471 c1_i32_404
  let v526 : BitVec 32 := Scalar.addi c0_i32_405 v525
  v526.toNat
def k0_dev18 (d0 : Dev nD) : Nat :=
  let c0_i32_444 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_443 : BitVec 32 := 1#32
  let v566 : BitVec 32 := Scalar.muli v19 c1_i32_443
  let v567 : BitVec 32 := Scalar.addi c0_i32_444 v566
  v567.toNat
def k0_dev19 (d0 : Dev nD) : Nat :=
  let c0_i32_452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_451 : BitVec 32 := 1#32
  let v576 : BitVec 32 := Scalar.muli v19 c1_i32_451
  let v577 : BitVec 32 := Scalar.addi c0_i32_452 v576
  v577.toNat
def k0_dev20 (d0 : Dev nD) : Nat :=
  let c0_i32_460 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_459 : BitVec 32 := 1#32
  let v586 : BitVec 32 := Scalar.muli v33 c1_i32_459
  let v587 : BitVec 32 := Scalar.addi c0_i32_460 v586
  v587.toNat
def k0_dev21 (d0 : Dev nD) : Nat :=
  let c0_i32_468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_467 : BitVec 32 := 1#32
  let v596 : BitVec 32 := Scalar.muli v33 c1_i32_467
  let v597 : BitVec 32 := Scalar.addi c0_i32_468 v596
  v597.toNat
def k0_dev22 (d0 : Dev nD) : Nat :=
  let c0_i32_532 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32_473 : BitVec 32 := 2#32
  let v606 : BitVec 32 := Scalar.subi v5 c2_i32_473
  let c8_i32_474 : BitVec 32 := 8#32
  let c0_i32_475 : BitVec 32 := 0#32
  let v607 : BitVec 1 := Scalar.cmpi .eq c8_i32_474 c0_i32_475
  let c1_i32_476 : BitVec 32 := 1#32
  let v608 : BitVec 32 := Scalar.select v607 c1_i32_476 c8_i32_474
  let v609 : BitVec 32 := Scalar.remsi v606 v608
  let c0_i32_478 : BitVec 32 := 0#32
  let v611 : BitVec 1 := Scalar.cmpi .slt v609 c0_i32_478
  let c0_i32_479 : BitVec 32 := 0#32
  let v612 : BitVec 1 := Scalar.cmpi .slt v608 c0_i32_479
  let v613 : BitVec 1 := Scalar.xori v611 v612
  let c0_i32_477 : BitVec 32 := 0#32
  let v610 : BitVec 1 := Scalar.cmpi .ne v609 c0_i32_477
  let v614 : BitVec 1 := Scalar.andi v613 v610
  let v615 : BitVec 32 := Scalar.addi v609 v608
  let v616 : BitVec 32 := Scalar.select v614 v615 v609
  let c4_i32_480 : BitVec 32 := 4#32
  let v617 : BitVec 1 := Scalar.cmpi .slt v616 c4_i32_480
  let c11_i32_481 : BitVec 32 := 11#32
  let v618 : BitVec 32 := Scalar.subi c11_i32_481 v616
  let v619 : BitVec 32 := Scalar.select v617 v616 v618
  let c1_i32_531 : BitVec 32 := 1#32
  let v673 : BitVec 32 := Scalar.muli v619 c1_i32_531
  let v674 : BitVec 32 := Scalar.addi c0_i32_532 v673
  v674.toNat
def k0_dev23 (d0 : Dev nD) : Nat :=
  let c0_i32_596 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c6_i32_536 : BitVec 32 := 6#32
  let v682 : BitVec 32 := Scalar.subi v5 c6_i32_536
  let c8_i32_537 : BitVec 32 := 8#32
  let c0_i32_538 : BitVec 32 := 0#32
  let v683 : BitVec 1 := Scalar.cmpi .eq c8_i32_537 c0_i32_538
  let c1_i32_539 : BitVec 32 := 1#32
  let v684 : BitVec 32 := Scalar.select v683 c1_i32_539 c8_i32_537
  let v685 : BitVec 32 := Scalar.remsi v682 v684
  let c0_i32_541 : BitVec 32 := 0#32
  let v687 : BitVec 1 := Scalar.cmpi .slt v685 c0_i32_541
  let c0_i32_542 : BitVec 32 := 0#32
  let v688 : BitVec 1 := Scalar.cmpi .slt v684 c0_i32_542
  let v689 : BitVec 1 := Scalar.xori v687 v688
  let c0_i32_540 : BitVec 32 := 0#32
  let v686 : BitVec 1 := Scalar.cmpi .ne v685 c0_i32_540
  let v690 : BitVec 1 := Scalar.andi v689 v686
  let v691 : BitVec 32 := Scalar.addi v685 v684
  let v692 : BitVec 32 := Scalar.select v690 v691 v685
  let c4_i32_543 : BitVec 32 := 4#32
  let v693 : BitVec 1 := Scalar.cmpi .slt v692 c4_i32_543
  let c11_i32_544 : BitVec 32 := 11#32
  let v694 : BitVec 32 := Scalar.subi c11_i32_544 v692
  let v695 : BitVec 32 := Scalar.select v693 v692 v694
  let c1_i32_595 : BitVec 32 := 1#32
  let v749 : BitVec 32 := Scalar.muli v695 c1_i32_595
  let v750 : BitVec 32 := Scalar.addi c0_i32_596 v749
  v750.toNat
def k0_dev24 (d0 : Dev nD) : Nat :=
  let c0_i32_635 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_634 : BitVec 32 := 1#32
  let v790 : BitVec 32 := Scalar.muli v19 c1_i32_634
  let v791 : BitVec 32 := Scalar.addi c0_i32_635 v790
  v791.toNat
def k0_dev25 (d0 : Dev nD) : Nat :=
  let c0_i32_643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_642 : BitVec 32 := 1#32
  let v800 : BitVec 32 := Scalar.muli v33 c1_i32_642
  let v801 : BitVec 32 := Scalar.addi c0_i32_643 v800
  v801.toNat
def k0_dev26 (d0 : Dev nD) : Nat :=
  let c0_i32_708 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32_648 : BitVec 32 := 3#32
  let v810 : BitVec 32 := Scalar.subi v5 c3_i32_648
  let c8_i32_649 : BitVec 32 := 8#32
  let c0_i32_650 : BitVec 32 := 0#32
  let v811 : BitVec 1 := Scalar.cmpi .eq c8_i32_649 c0_i32_650
  let c1_i32_651 : BitVec 32 := 1#32
  let v812 : BitVec 32 := Scalar.select v811 c1_i32_651 c8_i32_649
  let v813 : BitVec 32 := Scalar.remsi v810 v812
  let c0_i32_653 : BitVec 32 := 0#32
  let v815 : BitVec 1 := Scalar.cmpi .slt v813 c0_i32_653
  let c0_i32_654 : BitVec 32 := 0#32
  let v816 : BitVec 1 := Scalar.cmpi .slt v812 c0_i32_654
  let v817 : BitVec 1 := Scalar.xori v815 v816
  let c0_i32_652 : BitVec 32 := 0#32
  let v814 : BitVec 1 := Scalar.cmpi .ne v813 c0_i32_652
  let v818 : BitVec 1 := Scalar.andi v817 v814
  let v819 : BitVec 32 := Scalar.addi v813 v812
  let v820 : BitVec 32 := Scalar.select v818 v819 v813
  let c4_i32_655 : BitVec 32 := 4#32
  let v821 : BitVec 1 := Scalar.cmpi .slt v820 c4_i32_655
  let c11_i32_656 : BitVec 32 := 11#32
  let v822 : BitVec 32 := Scalar.subi c11_i32_656 v820
  let v823 : BitVec 32 := Scalar.select v821 v820 v822
  let c1_i32_707 : BitVec 32 := 1#32
  let v877 : BitVec 32 := Scalar.muli v823 c1_i32_707
  let v878 : BitVec 32 := Scalar.addi c0_i32_708 v877
  v878.toNat
def k0_dev27 (d0 : Dev nD) : Nat :=
  let c0_i32_772 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c5_i32_712 : BitVec 32 := 5#32
  let v886 : BitVec 32 := Scalar.subi v5 c5_i32_712
  let c8_i32_713 : BitVec 32 := 8#32
  let c0_i32_714 : BitVec 32 := 0#32
  let v887 : BitVec 1 := Scalar.cmpi .eq c8_i32_713 c0_i32_714
  let c1_i32_715 : BitVec 32 := 1#32
  let v888 : BitVec 32 := Scalar.select v887 c1_i32_715 c8_i32_713
  let v889 : BitVec 32 := Scalar.remsi v886 v888
  let c0_i32_717 : BitVec 32 := 0#32
  let v891 : BitVec 1 := Scalar.cmpi .slt v889 c0_i32_717
  let c0_i32_718 : BitVec 32 := 0#32
  let v892 : BitVec 1 := Scalar.cmpi .slt v888 c0_i32_718
  let v893 : BitVec 1 := Scalar.xori v891 v892
  let c0_i32_716 : BitVec 32 := 0#32
  let v890 : BitVec 1 := Scalar.cmpi .ne v889 c0_i32_716
  let v894 : BitVec 1 := Scalar.andi v893 v890
  let v895 : BitVec 32 := Scalar.addi v889 v888
  let v896 : BitVec 32 := Scalar.select v894 v895 v889
  let c4_i32_719 : BitVec 32 := 4#32
  let v897 : BitVec 1 := Scalar.cmpi .slt v896 c4_i32_719
  let c11_i32_720 : BitVec 32 := 11#32
  let v898 : BitVec 32 := Scalar.subi c11_i32_720 v896
  let v899 : BitVec 32 := Scalar.select v897 v896 v898
  let c1_i32_771 : BitVec 32 := 1#32
  let v953 : BitVec 32 := Scalar.muli v899 c1_i32_771
  let v954 : BitVec 32 := Scalar.addi c0_i32_772 v953
  v954.toNat
def k0_dev28 (d0 : Dev nD) : Nat :=
  let c0_i32_852 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_792 : BitVec 32 := 4#32
  let v978 : BitVec 32 := Scalar.subi v5 c4_i32_792
  let c8_i32_793 : BitVec 32 := 8#32
  let c0_i32_794 : BitVec 32 := 0#32
  let v979 : BitVec 1 := Scalar.cmpi .eq c8_i32_793 c0_i32_794
  let c1_i32_795 : BitVec 32 := 1#32
  let v980 : BitVec 32 := Scalar.select v979 c1_i32_795 c8_i32_793
  let v981 : BitVec 32 := Scalar.remsi v978 v980
  let c0_i32_797 : BitVec 32 := 0#32
  let v983 : BitVec 1 := Scalar.cmpi .slt v981 c0_i32_797
  let c0_i32_798 : BitVec 32 := 0#32
  let v984 : BitVec 1 := Scalar.cmpi .slt v980 c0_i32_798
  let v985 : BitVec 1 := Scalar.xori v983 v984
  let c0_i32_796 : BitVec 32 := 0#32
  let v982 : BitVec 1 := Scalar.cmpi .ne v981 c0_i32_796
  let v986 : BitVec 1 := Scalar.andi v985 v982
  let v987 : BitVec 32 := Scalar.addi v981 v980
  let v988 : BitVec 32 := Scalar.select v986 v987 v981
  let c4_i32_799 : BitVec 32 := 4#32
  let v989 : BitVec 1 := Scalar.cmpi .slt v988 c4_i32_799
  let c11_i32_800 : BitVec 32 := 11#32
  let v990 : BitVec 32 := Scalar.subi c11_i32_800 v988
  let v991 : BitVec 32 := Scalar.select v989 v988 v990
  let c1_i32_851 : BitVec 32 := 1#32
  let v1045 : BitVec 32 := Scalar.muli v991 c1_i32_851
  let v1046 : BitVec 32 := Scalar.addi c0_i32_852 v1045
  v1046.toNat
def k0_off4 (d0 : Dev nD) (c0_i32_1005 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v1172 : BitVec 32 := Scalar.addi v5 c0_i32_1005
  let c1_i32_1006 : BitVec 32 := 1#32
  let v1173 : BitVec 32 := Scalar.addi v1172 c1_i32_1006
  let c8_i32_1007 : BitVec 32 := 8#32
  let c0_i32_1008 : BitVec 32 := 0#32
  let v1174 : BitVec 1 := Scalar.cmpi .eq c8_i32_1007 c0_i32_1008
  let c1_i32_1009 : BitVec 32 := 1#32
  let v1175 : BitVec 32 := Scalar.select v1174 c1_i32_1009 c8_i32_1007
  let v1176 : BitVec 32 := Scalar.remsi v1173 v1175
  let c0_i32_1011 : BitVec 32 := 0#32
  let v1178 : BitVec 1 := Scalar.cmpi .slt v1176 c0_i32_1011
  let c0_i32_1012 : BitVec 32 := 0#32
  let v1179 : BitVec 1 := Scalar.cmpi .slt v1175 c0_i32_1012
  let v1180 : BitVec 1 := Scalar.xori v1178 v1179
  let c0_i32_1010 : BitVec 32 := 0#32
  let v1177 : BitVec 1 := Scalar.cmpi .ne v1176 c0_i32_1010
  let v1181 : BitVec 1 := Scalar.andi v1180 v1177
  let v1182 : BitVec 32 := Scalar.addi v1176 v1175
  let v1183 : BitVec 32 := Scalar.select v1181 v1182 v1176
  let c4_i32_1013 : BitVec 32 := 4#32
  let v1184 : BitVec 1 := Scalar.cmpi .slt v1183 c4_i32_1013
  let c11_i32_1014 : BitVec 32 := 11#32
  let v1185 : BitVec 32 := Scalar.subi c11_i32_1014 v1183
  let v1186 : BitVec 32 := Scalar.select v1184 v1183 v1185
  let c1024_i32_1015 : BitVec 32 := 1024#32
  let v1187 : BitVec 32 := Scalar.muli v1186 c1024_i32_1015
  let c0_i32_1021 : BitVec 32 := 0#32
  ![v1187.toNat, 0]
abbrev stage0_0 : Fin 1 → Memref sig .tc .vmem S1024x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdeal.Ring.lean ====
/-
The ring the kernel's remote copies run around, as arithmetic on device numbers, and the program's own address
computations — the devices it signals and sends to, the offsets of the blocks it reads and writes — in closed form.
-/
module

public import proofs.«01_k».proof.Proof.Gen.KernelIdeal

@[expose] public section

namespace Cert.KernelIdeal.Ring

open Cert.KernelIdeal Cert.KernelIdeal.Gen
open Idealize.ShloMosaic

/-- Ring position ↔ device number: positions 0–3 are the devices 0–3, positions 4–7 the devices 7–4. Its own inverse. -/
def rg (q : ℕ) : ℕ := if q % 8 < 4 then q % 8 else 11 - q % 8

/-- A ring place names one of the eight devices. -/
theorem rg_lt (q : ℕ) : rg q < 8 := by unfold rg; split <;> omega

/-- The device `k` places after `c` on the ring. -/
def at_ (c : Dev nD) (k : ℕ) : Dev nD := ⟨rg (rg c.val + k), rg_lt _⟩

/-- The next device on the ring, and the one before. -/
abbrev right (c : Dev nD) : Dev nD := at_ c 1
abbrev left (c : Dev nD) : Dev nD := at_ c 7

/-- Going `j` places and then `k` is going `j + k` places. -/
theorem at_at (c : Dev nD) (j k : ℕ) : at_ (at_ c j) k = at_ c (j + k) := by
  apply Fin.ext
  have hc := c.isLt
  simp only [at_, rg]
  split_ifs <;> omega

/-- Eight places are the whole way round. -/
theorem at_mod (c : Dev nD) (k : ℕ) : at_ c (k % 8) = at_ c k := by
  apply Fin.ext
  simp only [at_, rg]
  split_ifs <;> omega

/-- No places on is the device itself. -/
theorem at_zero (c : Dev nD) : at_ c 0 = c := by
  revert c; decide

/-- So is eight places on. -/
theorem at_eight (c : Dev nD) : at_ c 8 = c := by
  revert c; decide

/-! ## The payments

A device makes 28 payments on semaphores other devices wait on, in a fixed order: seven signals of the others'
barrier semaphore, and twenty-one remote copies (fourteen hops of the weight halves, seven blocks of the result).
`dist k` is how many ring places away the receiver of copy `k` sits; the signals go by device number. -/

/-- How far along the ring copy `k` goes. -/
def dist : Fin 28 → ℕ :=
  ![0, 0, 0, 0, 0, 0, 0,  1, 1, 7, 7,  1, 1, 7, 7,  7, 1,  1, 1, 7, 7,  6, 2,  1, 7,  5, 3, 4]

/-- Who receives payment `k` of device `c`. -/
def tgtF (k : Fin 28) (c : Dev nD) : Dev nD :=
  if k.val < 7 then ⟨(c.val + k.val + 1) % 8, Nat.mod_lt _ (by decide)⟩ else at_ c (dist k)

/-- Who makes payment `k` to device `c`. -/
def srcF (k : Fin 28) (c : Dev nD) : Dev nD :=
  if k.val < 7 then ⟨(c.val + 7 - k.val) % 8, Nat.mod_lt _ (by decide)⟩ else at_ c (8 - dist k)

/-- Payment `k`'s receiver, as a permutation of the devices. -/
def tgt (k : Fin 28) : Dev nD ≃ Dev nD where
  toFun := tgtF k
  invFun := srcF k
  left_inv := by revert k; decide +kernel
  right_inv := by revert k; decide +kernel

/-- The semaphore on the receiver that copy `k` counts (no entry for the signals). -/
def rs : Fin 28 → Fin 52 :=
  ![0, 0, 0, 0, 0, 0, 0,  5, 13, 21, 29,  6, 14, 22, 30,  40, 46,  7, 15, 23, 31,  41, 45,  8, 32,  42, 44, 43]

/-- The semaphore on the sender that copy `k` counts (no entry for the signals). -/
def ss : Fin 28 → Fin 52 :=
  ![0, 0, 0, 0, 0, 0, 0,  1, 9, 17, 25,  2, 10, 18, 26,  33, 39,  3, 11, 19, 27,  34, 38,  4, 28,  35, 37, 36]

/-! ## The program's address computations -/

set_option maxRecDepth 65536

/-- The device that the program computes for its payment 0. -/
theorem dev1 (c : Dev nD) (h) : (⟨k0_dev1 c, h⟩ : Dev nD) = tgt 0 c := by revert c; decide +kernel
/-- The device that the program computes for its payment 1. -/
theorem dev2 (c : Dev nD) (h) : (⟨k0_dev2 c, h⟩ : Dev nD) = tgt 1 c := by revert c; decide +kernel
/-- The device that the program computes for its payment 2. -/
theorem dev3 (c : Dev nD) (h) : (⟨k0_dev3 c, h⟩ : Dev nD) = tgt 2 c := by revert c; decide +kernel
/-- The device that the program computes for its payment 3. -/
theorem dev4 (c : Dev nD) (h) : (⟨k0_dev4 c, h⟩ : Dev nD) = tgt 3 c := by revert c; decide +kernel
/-- The device that the program computes for its payment 4. -/
theorem dev5 (c : Dev nD) (h) : (⟨k0_dev5 c, h⟩ : Dev nD) = tgt 4 c := by revert c; decide +kernel
/-- The device that the program computes for its payment 5. -/
theorem dev6 (c : Dev nD) (h) : (⟨k0_dev6 c, h⟩ : Dev nD) = tgt 5 c := by revert c; decide +kernel
/-- The device that the program computes for its payment 6. -/
theorem dev7 (c : Dev nD) (h) : (⟨k0_dev7 c, h⟩ : Dev nD) = tgt 6 c := by revert c; decide +kernel
/-- The device that the program computes for its payment 7. -/
theorem dev8 (c : Dev nD) (h) : (⟨k0_dev8 c, h⟩ : Dev nD) = tgt 7 c := by revert c; decide +kernel
/-- The device that the program computes for its payment 8. -/
theorem dev9 (c : Dev nD) (h) : (⟨k0_dev9 c, h⟩ : Dev nD) = tgt 8 c := by revert c; decide +kernel
/-- The device that the program computes for its payment 9. -/
theorem dev10 (c : Dev nD) (h) : (⟨k0_dev10 c, h⟩ : Dev nD) = tgt 9 c := by revert c; decide +kernel
/-- The device that the program computes for its payment 10. -/
theorem dev11 (c : Dev nD) (h) : (⟨k0_dev11 c, h⟩ : Dev nD) = tgt 10 c := by revert c; decide +kernel
/-- The device that the program computes for its payment 11. -/
theorem dev12 (c : Dev nD) (h) : (⟨k0_dev12 c, h⟩ : Dev nD) = tgt 11 c := by revert c; decide +kernel
/-- The device that the program computes for its payment 12. -/
theorem dev13 (c : Dev nD) (h) : (⟨k0_dev13 c, h⟩ : Dev nD) = tgt 12 c := by revert c; decide +kernel
/-- The device that the program computes for its payment 13. -/
theorem dev14 (c : Dev nD) (h) : (⟨k0_dev14 c, h⟩ : Dev nD) = tgt 13 c := by revert c; decide +kernel
/-- The device that the program computes for its payment 14. -/
theorem dev15 (c : Dev nD) (h) : (⟨k0_dev15 c, h⟩ : Dev nD) = tgt 14 c := by revert c; decide +kernel
/-- The device that the program computes for its payment 15. -/
theorem dev16 (c : Dev nD) (h) : (⟨k0_dev16 c, h⟩ : Dev nD) = tgt 15 c := by revert c; decide +kernel
/-- The device that the program computes for its payment 16. -/
theorem dev17 (c : Dev nD) (h) : (⟨k0_dev17 c, h⟩ : Dev nD) = tgt 16 c := by revert c; decide +kernel
/-- The device that the program computes for its payment 17. -/
theorem dev18 (c : Dev nD) (h) : (⟨k0_dev18 c, h⟩ : Dev nD) = tgt 17 c := by revert c; decide +kernel
/-- The device that the program computes for its payment 18. -/
theorem dev19 (c : Dev nD) (h) : (⟨k0_dev19 c, h⟩ : Dev nD) = tgt 18 c := by revert c; decide +kernel
/-- The device that the program computes for its payment 19. -/
theorem dev20 (c : Dev nD) (h) : (⟨k0_dev20 c, h⟩ : Dev nD) = tgt 19 c := by revert c; decide +kernel
/-- The device that the program computes for its payment 20. -/
theorem dev21 (c : Dev nD) (h) : (⟨k0_dev21 c, h⟩ : Dev nD) = tgt 20 c := by revert c; decide +kernel
/-- The device that the program computes for its payment 21. -/
theorem dev22 (c : Dev nD) (h) : (⟨k0_dev22 c, h⟩ : Dev nD) = tgt 21 c := by revert c; decide +kernel
/-- The device that the program computes for its payment 22. -/
theorem dev23 (c : Dev nD) (h) : (⟨k0_dev23 c, h⟩ : Dev nD) = tgt 22 c := by revert c; decide +kernel
/-- The device that the program computes for its payment 23. -/
theorem dev24 (c : Dev nD) (h) : (⟨k0_dev24 c, h⟩ : Dev nD) = tgt 23 c := by revert c; decide +kernel
/-- The device that the program computes for its payment 24. -/
theorem dev25 (c : Dev nD) (h) : (⟨k0_dev25 c, h⟩ : Dev nD) = tgt 24 c := by revert c; decide +kernel
/-- The device that the program computes for its payment 25. -/
theorem dev26 (c : Dev nD) (h) : (⟨k0_dev26 c, h⟩ : Dev nD) = tgt 25 c := by revert c; decide +kernel
/-- The device that the program computes for its payment 26. -/
theorem dev27 (c : Dev nD) (h) : (⟨k0_dev27 c, h⟩ : Dev nD) = tgt 26 c := by revert c; decide +kernel
/-- The device that the program computes for its payment 27. -/
theorem dev28 (c : Dev nD) (h) : (⟨k0_dev28 c, h⟩ : Dev nD) = tgt 27 c := by revert c; decide +kernel

/-- The weight slot named `h` places back is the slot of the device that many places back. -/
theorem off1 (c : Dev nD) (h : Fin 8) : k0_off1 c (BitVec.ofNat 32 h.val) = ![(at_ c (8 - h.val)).val, 0, 0] := by
  revert h c; decide +kernel

/-- The weight slot named `h` places ahead is the slot of the device that many places ahead. -/
theorem off2 (c : Dev nD) (h : Fin 4) : k0_off2 c (BitVec.ofNat 32 h.val) = ![(at_ c h.val).val, 0, 0] := by
  revert h c; decide +kernel

/-- A device's own rows of a result start at 1024 times its number. -/
theorem off3 (c : Dev nD) : k0_off3 c = ![1024 * c.val, 0] := by
  revert c; decide +kernel

end Cert.KernelIdeal.Ring
-- ==== Proof.KernelIdeal.Flat.lean ====
/-
The kernel's body as one straight line of named steps: the entry signals and their wait, the hops of the weight halves
round the ring both ways, the local copies and products, the blocks of the result sent home, the closing waits. The
theorem at the end says the printed body is this line.
-/
module

public import proofs.«01_k».proof.Proof.Gen.KernelIdeal.Skeleton

@[expose] public section

noncomputable section

namespace Cert.KernelIdeal.Flat

open Cert.KernelIdeal Cert.KernelIdeal.Gen
open Idealize.ShloMosaic Idealize.SL.Sem
open Idealize.ShloMosaic.TcCoe

variable {F : FTy → Type} [FloatOps F]

variable (F) in
abbrev P := Prog (TpuEff nD τ sig (Elt F) Λ₀ .tc) PUnit

/-! ## The buffers the steps name -/

abbrev xM : Memref sig .tc .vmem S1024x8192 .f32 := Memref.whole cc0_stg0_0
abbrev wM : Memref sig .tc .hbm S8192x512 .f32 := Memref.whole main_arg1
abbrev outM : Memref sig .tc .hbm S8192x512 .f32 := Memref.whole main_v1_0
abbrev boxM : Memref sig .tc .hbm S7x1024x512 .f32 := Memref.whole main_v1_5
abbrev stM : Memref sig .tc .vmem S8192x512 .f32 := Memref.whole cc0_scratch0
abbrev ownM : Memref sig .tc .vmem S1024x512 .f32 := Memref.whole cc0_scratch1
abbrev bufM : Memref sig .tc .vmem S2x1024x512 .f32 := Memref.whole cc0_scratch2

/-- The four arrays the weight halves travel through: upper and lower half with the ring's order, upper and lower against. -/
abbrev G0 : Memref sig .tc .hbm S8x4096x512 .f32 := Memref.whole main_v1_1
abbrev G1 : Memref sig .tc .hbm S8x4096x512 .f32 := Memref.whole main_v1_2
abbrev G2 : Memref sig .tc .hbm S8x4096x512 .f32 := Memref.whole main_v1_3
abbrev G3 : Memref sig .tc .hbm S8x4096x512 .f32 := Memref.whole main_v1_4

/-- The upper and the lower half of an array of 8192 rows. -/
abbrev topH {sp : Space} (M : Memref sig .tc sp S8192x512 .f32) : Memref sig .tc sp S4096x512 .f32 :=
  M.slice (Rect.unit (s := S8192x512) ![0, 0] S4096x512.size inb_S8192x512_S4096x512_0_0) (fun _ => rfl)
abbrev botH {sp : Space} (M : Memref sig .tc sp S8192x512 .f32) : Memref sig .tc sp S4096x512 .f32 :=
  M.slice (Rect.unit (s := S8192x512) ![4096, 0] S4096x512.size inb_S8192x512_S4096x512_4096_0) (fun _ => rfl)

/-- The slot of a travelling array at an offset. -/
abbrev slotM (M : Memref sig .tc .hbm S8x4096x512 .f32) (off : Fin 3 → ℕ) (h : ∀ a, off a + S1x4096x512.size a ≤ S8x4096x512.size a) :
    Memref sig .tc .hbm S4096x512 .f32 :=
  (M.slice (Rect.unit (s := S8x4096x512) off S1x4096x512.size h) (fun _ => rfl)).squeeze S4096x512 squeezes_S1x4096x512_S4096x512

/-- Rows of the result at an offset. -/
abbrev rowsM (off : Fin 2 → ℕ) (h : ∀ a, off a + S1024x512.size a ≤ S8192x512.size a) : Memref sig .tc .hbm S1024x512 .f32 :=
  outM.slice (Rect.unit (s := S8192x512) off S1024x512.size h) (fun _ => rfl)

/-- A place of the outgoing box, and a place of the two-place buffer before it. -/
abbrev boxP (off : Fin 3 → ℕ) (h : ∀ a, off a + S1x1024x512.size a ≤ S7x1024x512.size a) : Memref sig .tc .hbm S1024x512 .f32 :=
  (boxM.slice (Rect.unit (s := S7x1024x512) off S1x1024x512.size h) (fun _ => rfl)).squeeze S1024x512 squeezes_S1x1024x512_S1024x512
abbrev bufP (off : Fin 3 → ℕ) (h : ∀ a, off a + S1x1024x512.size a ≤ S2x1024x512.size a) : Memref sig .tc .vmem S1024x512 .f32 :=
  (bufM.slice (Rect.unit (s := S2x1024x512) off S1x1024x512.size h) (fun _ => rfl)).squeeze S1024x512 squeezes_S1x1024x512_S1024x512

/-- The barrier semaphore. -/
abbrev barS : Sem sig := (SemArray.scalar (sig.barrier 0 rfl) : Sems sig S_).sem

/-! ## The steps -/

/-- Signal device `d`'s barrier semaphore once. -/
def signal (d : Dev nD) (k : P F) : P F := .op (.semSignal (d, .tc) barS 1) fun _ => k

/-- Wait for the seven other devices' signals. -/
def barWait (k : P F) : P F := .op (.semWait barS 7) fun _ => k

/-- A copy into device `d`'s memory, counted on the sender's semaphore `s` and the receiver's `r`. -/
def send {sh : Shape} (src dst : Memref sig .tc .hbm sh .f32) (d : Dev nD) (s r : Fin 52) (h₁ : src.view.WordExact) (h₂ : dst.view.WordExact)
    (k : P F) : P F :=
  .op (.enqueueDma src (.remote (Dev.tc d) dst (.dma s)) (.dma r) h₁ h₂ ⟨⟨rfl, Or.inl rfl⟩, trivial⟩) fun _ => k

/-- A copy within the device, counted on semaphore `s`: its start. -/
def copy {sp sp' : Space} {sh : Shape} (src : Memref sig .tc sp sh .f32) (dst : Memref sig .tc sp' sh .f32) (s : Fin 52)
    (h₁ : src.view.WordExact) (h₂ : dst.view.WordExact) (ht : DmaTarget.Typed (nD := nD) (τ := τ) (sig := sig) (p := .tc) sp (.dma s) (.here dst)) (k : P F) : P F :=
  .op (.enqueueDma src (.here dst) (.dma s) h₁ h₂ ht) fun _ => k

/-- The wait on semaphore `s` for as much as a copy from `src` to `dst` counts. -/
def wait {sp sp' : Space} {sh : Shape} (src : Memref sig .tc sp sh .f32) (dst : Memref sig .tc sp' sh .f32) (s : Fin 52)
    (h₁ : src.view.WordExact) (h₂ : dst.view.WordExact) (k : P F) : P F :=
  .op (.waitDma2 s src dst h₁ h₂) fun _ => k

/-- Both halves of a weight block brought into the stage. -/
def fetch (top bot : Memref sig .tc .hbm S4096x512 .f32) (h₁ : top.view.WordExact) (h₂ : bot.view.WordExact) (k : P F) : P F :=
  copy top (topH stM) 47 h₁ (View.wordExact_bits rfl) ⟨Or.inl rfl, trivial⟩ <|
  copy bot (botH stM) 48 h₂ (View.wordExact_bits rfl) ⟨Or.inl rfl, trivial⟩ <|
  wait top (topH stM) 47 h₁ (View.wordExact_bits rfl) <|
  wait bot (botH stM) 48 h₂ (View.wordExact_bits rfl) k

/-- The device's own block of the product: read both operands, write the block. -/
def own (pay : Vec F S1024x8192 .f32 → Vec F S8192x512 .f32 → FVec F S1024x512 .f32) (k : P F) : P F :=
  .op (.load xM (Rect.unit (s := S1024x8192) ![0, 0] S1024x8192.size inb_S1024x8192_S1024x8192_0_0).toLoadRect (View.loadsAt_vmem h_S1024x8192)) fun x =>
  .op (.load stM (Rect.unit (s := S8192x512) ![0, 0] S8192x512.size inb_S8192x512_S8192x512_0_0).toLoadRect (View.loadsAt_vmem h_S8192x512)) fun w =>
  .op (.load ownM (Rect.unit (s := S1024x512) ![0, 0] S1024x512.size inb_S1024x512_S1024x512_0_0).toLoadRect (View.loadsAt_vmem h_S1024x512)) fun _ =>
  .op (.store ownM (Rect.unit (s := S1024x512) ![0, 0] S1024x512.size inb_S1024x512_S1024x512_0_0) (pay x w) Finset.univ (View.stores_vmem_bits_univ h_S1024x512 rfl) (.inl rfl)) fun _ => k

/-- Another device's block of the product: read both operands, write place `off` of the two-place buffer. -/
def prod (off : Fin 3 → ℕ) (h : ∀ a, off a + S1x1024x512.size a ≤ S2x1024x512.size a)
    (pay : Vec F S1024x8192 .f32 → Vec F S8192x512 .f32 → FVec F S1x1024x512 .f32) (k : P F) : P F :=
  .op (.load xM (Rect.unit (s := S1024x8192) ![0, 0] S1024x8192.size inb_S1024x8192_S1024x8192_0_0).toLoadRect (View.loadsAt_vmem h_S1024x8192)) fun x =>
  .op (.load stM (Rect.unit (s := S8192x512) ![0, 0] S8192x512.size inb_S8192x512_S8192x512_0_0).toLoadRect (View.loadsAt_vmem h_S8192x512)) fun w =>
  .op (.load bufM (Rect.unit (s := S2x1024x512) off S1x1024x512.size h).toLoadRect (View.loadsAt_vmem h_S1x1024x512)) fun _ =>
  .op (.store bufM (Rect.unit (s := S2x1024x512) off S1x1024x512.size h) (pay x w) Finset.univ (View.stores_vmem_bits_univ h_S1x1024x512 rfl) (.inl rfl)) fun _ => k

/-- A block for device `d`: fetch its weights, multiply, move the block to place `off'` of the outgoing box, send it to `d`'s
    rows `offr` of the result. -/
def proc (top bot : Memref sig .tc .hbm S4096x512 .f32) (h₁ : top.view.WordExact) (h₂ : bot.view.WordExact)
    (off : Fin 3 → ℕ) (h : ∀ a, off a + S1x1024x512.size a ≤ S2x1024x512.size a)
    (off' : Fin 3 → ℕ) (h' : ∀ a, off' a + S1x1024x512.size a ≤ S7x1024x512.size a)
    (offr : Fin 2 → ℕ) (hr : ∀ a, offr a + S1024x512.size a ≤ S8192x512.size a)
    (l s r : Fin 52) (d : Dev nD)
    (pay : Vec F S1024x8192 .f32 → Vec F S8192x512 .f32 → FVec F S1x1024x512 .f32) (k : P F) : P F :=
  fetch top bot h₁ h₂ <| prod off h pay <|
  copy (bufP off h) (boxP off' h') l ((View.wordExact_bits rfl).reshape _ _) ((View.wordExact_bits rfl).reshape _ _) ⟨Or.inl rfl, trivial⟩ <|
  wait (bufP off h) (boxP off' h') l ((View.wordExact_bits rfl).reshape _ _) ((View.wordExact_bits rfl).reshape _ _) <|
  send (boxP off' h') (rowsM offr hr) d s r ((View.wordExact_bits rfl).reshape _ _) (View.wordExact_bits rfl) k

/-! ## The line -/

variable (c : Dev nD)

/-- Device `c`'s slots: `h` places back on the ring, and `h` places ahead. -/
def bk (M : Memref sig .tc .hbm S8x4096x512 .f32) (h : Fin 8) : Memref sig .tc .hbm S4096x512 .f32 :=
  slotM M (k0_off1 c (BitVec.ofNat 32 h.val)) (k0_off1_inb c h)
def ah (M : Memref sig .tc .hbm S8x4096x512 .f32) (h : Fin 4) : Memref sig .tc .hbm S4096x512 .f32 :=
  slotM M (k0_off2 c (BitVec.ofNat 32 h.val)) (k0_off2_inb c h)
/-- Its own rows of a result, and the rows of its own result the receive waits name. -/
def rowsC : Memref sig .tc .hbm S1024x512 .f32 := rowsM (k0_off3 c) (k0_off3_inb c)
def rowsW (m : Fin 7) : Memref sig .tc .hbm S1024x512 .f32 := rowsM (k0_off4 c (BitVec.ofNat 32 m.val)) (k0_off4_inb c m)

/-- The entry handshake: a signal to each other device, the wait for theirs. -/
def entry (k : P F) : P F :=
  signal ⟨k0_dev1 c, k0_dev1_lt c⟩ <|
  signal ⟨k0_dev2 c, k0_dev2_lt c⟩ <|
  signal ⟨k0_dev3 c, k0_dev3_lt c⟩ <|
  signal ⟨k0_dev4 c, k0_dev4_lt c⟩ <|
  signal ⟨k0_dev5 c, k0_dev5_lt c⟩ <|
  signal ⟨k0_dev6 c, k0_dev6_lt c⟩ <|
  signal ⟨k0_dev7 c, k0_dev7_lt c⟩ <|
  barWait <| k

/-- The first hop: both halves of the own weights both ways. -/
def hop0 (k : P F) : P F :=
  send (topH wM) (bk c G0 0) ⟨k0_dev8 c, k0_dev8_lt c⟩ 1 5 (View.wordExact_bits rfl) ((View.wordExact_bits rfl).reshape _ _) <|
  send (botH wM) (bk c G1 0) ⟨k0_dev9 c, k0_dev9_lt c⟩ 9 13 (View.wordExact_bits rfl) ((View.wordExact_bits rfl).reshape _ _) <|
  send (topH wM) (ah c G2 0) ⟨k0_dev10 c, k0_dev10_lt c⟩ 17 21 (View.wordExact_bits rfl) ((View.wordExact_bits rfl).reshape _ _) <|
  send (botH wM) (ah c G3 0) ⟨k0_dev11 c, k0_dev11_lt c⟩ 25 29 (View.wordExact_bits rfl) ((View.wordExact_bits rfl).reshape _ _) <| k

/-- The own block: the own weights fetched, the product written, its copy into the result started. -/
def own0 (k : P F) : P F :=
  fetch (topH wM) (botH wM) (View.wordExact_bits rfl) (View.wordExact_bits rfl) <|
  own (fun x w => k0_pay4 (F := F) (k0_pay1 x w) (k0_pay2 x w) (k0_pay3 x w)) <|
  copy ownM (rowsC c) 49 (Memref.isWhole_whole cc0_scratch1).wordExact (View.wordExact_bits rfl) ⟨Or.inl rfl, trivial⟩ <| k

/-- The first arrivals, and their next hop. -/
def arr0 (k : P F) : P F :=
  wait (topH wM) (bk c G0 0) 5 (View.wordExact_bits rfl) ((View.wordExact_bits rfl).reshape _ _) <|
  wait (botH wM) (bk c G1 0) 13 (View.wordExact_bits rfl) ((View.wordExact_bits rfl).reshape _ _) <|
  wait (topH wM) (ah c G2 0) 21 (View.wordExact_bits rfl) ((View.wordExact_bits rfl).reshape _ _) <|
  wait (botH wM) (ah c G3 0) 29 (View.wordExact_bits rfl) ((View.wordExact_bits rfl).reshape _ _) <|
  send (bk c G0 1) (bk c G0 1) ⟨k0_dev12 c, k0_dev12_lt c⟩ 2 6 ((View.wordExact_bits rfl).reshape _ _) ((View.wordExact_bits rfl).reshape _ _) <|
  send (bk c G1 1) (bk c G1 1) ⟨k0_dev13 c, k0_dev13_lt c⟩ 10 14 ((View.wordExact_bits rfl).reshape _ _) ((View.wordExact_bits rfl).reshape _ _) <|
  send (ah c G2 1) (ah c G2 1) ⟨k0_dev14 c, k0_dev14_lt c⟩ 18 22 ((View.wordExact_bits rfl).reshape _ _) ((View.wordExact_bits rfl).reshape _ _) <|
  send (ah c G3 1) (ah c G3 1) ⟨k0_dev15 c, k0_dev15_lt c⟩ 26 30 ((View.wordExact_bits rfl).reshape _ _) ((View.wordExact_bits rfl).reshape _ _) <| k

/-- The block of the device one place back. -/
def pr1 (k : P F) : P F :=
  proc (bk c G0 1) (bk c G1 1) ((View.wordExact_bits rfl).reshape _ _) ((View.wordExact_bits rfl).reshape _ _) ![0, 0, 0] inb_S2x1024x512_S1x1024x512_0_0_0 ![0, 0, 0] inb_S7x1024x512_S1x1024x512_0_0_0 (k0_off3 c) (k0_off3_inb c) 50 33 40 ⟨k0_dev16 c, k0_dev16_lt c⟩ (fun x w => k0_pay6 (F := F) (k0_pay5 x) w (constant S1024x512 .f32 0x00000000#32)) <| k

/-- The block of the device one place ahead. -/
def pr7 (k : P F) : P F :=
  proc (bk c G2 7) (bk c G3 7) ((View.wordExact_bits rfl).reshape _ _) ((View.wordExact_bits rfl).reshape _ _) ![0, 0, 0] inb_S2x1024x512_S1x1024x512_0_0_0 ![6, 0, 0] inb_S7x1024x512_S1x1024x512_6_0_0 (k0_off3 c) (k0_off3_inb c) 50 39 46 ⟨k0_dev17 c, k0_dev17_lt c⟩ k0_pay7 <| k

/-- The second arrivals, and their next hop. -/
def arr1 (k : P F) : P F :=
  wait (bk c G0 1) (bk c G0 1) 6 ((View.wordExact_bits rfl).reshape _ _) ((View.wordExact_bits rfl).reshape _ _) <|
  wait (bk c G1 1) (bk c G1 1) 14 ((View.wordExact_bits rfl).reshape _ _) ((View.wordExact_bits rfl).reshape _ _) <|
  wait (ah c G2 1) (ah c G2 1) 22 ((View.wordExact_bits rfl).reshape _ _) ((View.wordExact_bits rfl).reshape _ _) <|
  wait (ah c G3 1) (ah c G3 1) 30 ((View.wordExact_bits rfl).reshape _ _) ((View.wordExact_bits rfl).reshape _ _) <|
  send (bk c G0 2) (bk c G0 2) ⟨k0_dev18 c, k0_dev18_lt c⟩ 3 7 ((View.wordExact_bits rfl).reshape _ _) ((View.wordExact_bits rfl).reshape _ _) <|
  send (bk c G1 2) (bk c G1 2) ⟨k0_dev19 c, k0_dev19_lt c⟩ 11 15 ((View.wordExact_bits rfl).reshape _ _) ((View.wordExact_bits rfl).reshape _ _) <|
  send (ah c G2 2) (ah c G2 2) ⟨k0_dev20 c, k0_dev20_lt c⟩ 19 23 ((View.wordExact_bits rfl).reshape _ _) ((View.wordExact_bits rfl).reshape _ _) <|
  send (ah c G3 2) (ah c G3 2) ⟨k0_dev21 c, k0_dev21_lt c⟩ 27 31 ((View.wordExact_bits rfl).reshape _ _) ((View.wordExact_bits rfl).reshape _ _) <| k

/-- The block of the device two places back. -/
def pr2 (k : P F) : P F :=
  proc (bk c G0 2) (bk c G1 2) ((View.wordExact_bits rfl).reshape _ _) ((View.wordExact_bits rfl).reshape _ _) ![1, 0, 0] inb_S2x1024x512_S1x1024x512_1_0_0 ![1, 0, 0] inb_S7x1024x512_S1x1024x512_1_0_0 (k0_off3 c) (k0_off3_inb c) 51 34 41 ⟨k0_dev22 c, k0_dev22_lt c⟩ k0_pay8 <| k

/-- The block of the device two places ahead. -/
def pr6 (k : P F) : P F :=
  proc (bk c G2 6) (bk c G3 6) ((View.wordExact_bits rfl).reshape _ _) ((View.wordExact_bits rfl).reshape _ _) ![1, 0, 0] inb_S2x1024x512_S1x1024x512_1_0_0 ![5, 0, 0] inb_S7x1024x512_S1x1024x512_5_0_0 (k0_off3 c) (k0_off3_inb c) 51 38 45 ⟨k0_dev23 c, k0_dev23_lt c⟩ (fun x w => k0_pay13 (F := F) (k0_pay10 x w) (k0_pay11 x w) k0_pay12) <| k

/-- The third arrivals, and the last hop of two of them. -/
def arr2 (k : P F) : P F :=
  wait (bk c G0 2) (bk c G0 2) 7 ((View.wordExact_bits rfl).reshape _ _) ((View.wordExact_bits rfl).reshape _ _) <|
  wait (bk c G1 2) (bk c G1 2) 15 ((View.wordExact_bits rfl).reshape _ _) ((View.wordExact_bits rfl).reshape _ _) <|
  wait (ah c G2 2) (ah c G2 2) 23 ((View.wordExact_bits rfl).reshape _ _) ((View.wordExact_bits rfl).reshape _ _) <|
  wait (ah c G3 2) (ah c G3 2) 31 ((View.wordExact_bits rfl).reshape _ _) ((View.wordExact_bits rfl).reshape _ _) <|
  send (bk c G0 3) (bk c G0 3) ⟨k0_dev24 c, k0_dev24_lt c⟩ 4 8 ((View.wordExact_bits rfl).reshape _ _) ((View.wordExact_bits rfl).reshape _ _) <|
  send (ah c G3 3) (ah c G3 3) ⟨k0_dev25 c, k0_dev25_lt c⟩ 28 32 ((View.wordExact_bits rfl).reshape _ _) ((View.wordExact_bits rfl).reshape _ _) <| k

/-- The block of the device three places back. -/
def pr3 (k : P F) : P F :=
  proc (bk c G0 3) (bk c G1 3) ((View.wordExact_bits rfl).reshape _ _) ((View.wordExact_bits rfl).reshape _ _) ![0, 0, 0] inb_S2x1024x512_S1x1024x512_0_0_0 ![2, 0, 0] inb_S7x1024x512_S1x1024x512_2_0_0 (k0_off3 c) (k0_off3_inb c) 50 35 42 ⟨k0_dev26 c, k0_dev26_lt c⟩ (fun x w => k0_pay15 (F := F) (k0_pay14 x) w) <| k

/-- The block of the device three places ahead. -/
def pr5 (k : P F) : P F :=
  proc (bk c G2 5) (bk c G3 5) ((View.wordExact_bits rfl).reshape _ _) ((View.wordExact_bits rfl).reshape _ _) ![0, 0, 0] inb_S2x1024x512_S1x1024x512_0_0_0 ![4, 0, 0] inb_S7x1024x512_S1x1024x512_4_0_0 (k0_off3 c) (k0_off3_inb c) 50 37 44 ⟨k0_dev27 c, k0_dev27_lt c⟩ k0_pay16 <| k

/-- The last arrivals. -/
def arr3 (k : P F) : P F :=
  wait (bk c G0 3) (bk c G0 3) 8 ((View.wordExact_bits rfl).reshape _ _) ((View.wordExact_bits rfl).reshape _ _) <|
  wait (ah c G3 3) (ah c G3 3) 32 ((View.wordExact_bits rfl).reshape _ _) ((View.wordExact_bits rfl).reshape _ _) <| k

/-- The block of the device opposite. -/
def pr4 (k : P F) : P F :=
  proc (bk c G0 4) (bk c G3 4) ((View.wordExact_bits rfl).reshape _ _) ((View.wordExact_bits rfl).reshape _ _) ![1, 0, 0] inb_S2x1024x512_S1x1024x512_1_0_0 ![3, 0, 0] inb_S7x1024x512_S1x1024x512_3_0_0 (k0_off3 c) (k0_off3_inb c) 51 36 43 ⟨k0_dev28 c, k0_dev28_lt c⟩ k0_pay17 <| k

/-- The hops' own ends awaited. -/
def drainH (k : P F) : P F :=
  wait (bk c G0 0) (topH wM) 1 ((View.wordExact_bits rfl).reshape _ _) (View.wordExact_bits rfl) <|
  wait (bk c G1 0) (botH wM) 9 ((View.wordExact_bits rfl).reshape _ _) (View.wordExact_bits rfl) <|
  wait (ah c G2 0) (topH wM) 17 ((View.wordExact_bits rfl).reshape _ _) (View.wordExact_bits rfl) <|
  wait (ah c G3 0) (botH wM) 25 ((View.wordExact_bits rfl).reshape _ _) (View.wordExact_bits rfl) <|
  wait (bk c G0 1) (bk c G0 1) 2 ((View.wordExact_bits rfl).reshape _ _) ((View.wordExact_bits rfl).reshape _ _) <|
  wait (bk c G1 1) (bk c G1 1) 10 ((View.wordExact_bits rfl).reshape _ _) ((View.wordExact_bits rfl).reshape _ _) <|
  wait (ah c G2 1) (ah c G2 1) 18 ((View.wordExact_bits rfl).reshape _ _) ((View.wordExact_bits rfl).reshape _ _) <|
  wait (ah c G3 1) (ah c G3 1) 26 ((View.wordExact_bits rfl).reshape _ _) ((View.wordExact_bits rfl).reshape _ _) <|
  wait (bk c G0 2) (bk c G0 2) 3 ((View.wordExact_bits rfl).reshape _ _) ((View.wordExact_bits rfl).reshape _ _) <|
  wait (bk c G1 2) (bk c G1 2) 11 ((View.wordExact_bits rfl).reshape _ _) ((View.wordExact_bits rfl).reshape _ _) <|
  wait (ah c G2 2) (ah c G2 2) 19 ((View.wordExact_bits rfl).reshape _ _) ((View.wordExact_bits rfl).reshape _ _) <|
  wait (ah c G3 2) (ah c G3 2) 27 ((View.wordExact_bits rfl).reshape _ _) ((View.wordExact_bits rfl).reshape _ _) <|
  wait (bk c G0 3) (bk c G0 3) 4 ((View.wordExact_bits rfl).reshape _ _) ((View.wordExact_bits rfl).reshape _ _) <|
  wait (ah c G3 3) (ah c G3 3) 28 ((View.wordExact_bits rfl).reshape _ _) ((View.wordExact_bits rfl).reshape _ _) <| k

/-- The result blocks' own ends awaited, and the own block's copy. -/
def drainB (k : P F) : P F :=
  wait (rowsC c) (boxP ![0, 0, 0] inb_S7x1024x512_S1x1024x512_0_0_0) 33 (View.wordExact_bits rfl) ((View.wordExact_bits rfl).reshape _ _) <|
  wait (rowsC c) (boxP ![6, 0, 0] inb_S7x1024x512_S1x1024x512_6_0_0) 39 (View.wordExact_bits rfl) ((View.wordExact_bits rfl).reshape _ _) <|
  wait (rowsC c) (boxP ![1, 0, 0] inb_S7x1024x512_S1x1024x512_1_0_0) 34 (View.wordExact_bits rfl) ((View.wordExact_bits rfl).reshape _ _) <|
  wait (rowsC c) (boxP ![5, 0, 0] inb_S7x1024x512_S1x1024x512_5_0_0) 38 (View.wordExact_bits rfl) ((View.wordExact_bits rfl).reshape _ _) <|
  wait (rowsC c) (boxP ![2, 0, 0] inb_S7x1024x512_S1x1024x512_2_0_0) 35 (View.wordExact_bits rfl) ((View.wordExact_bits rfl).reshape _ _) <|
  wait (rowsC c) (boxP ![4, 0, 0] inb_S7x1024x512_S1x1024x512_4_0_0) 37 (View.wordExact_bits rfl) ((View.wordExact_bits rfl).reshape _ _) <|
  wait (rowsC c) (boxP ![3, 0, 0] inb_S7x1024x512_S1x1024x512_3_0_0) 36 (View.wordExact_bits rfl) ((View.wordExact_bits rfl).reshape _ _) <|
  wait ownM (rowsC c) 49 (Memref.isWhole_whole cc0_scratch1).wordExact (View.wordExact_bits rfl) <| k

/-- The other devices' blocks of the own result awaited. -/
def arrB (k : P F) : P F :=
  wait (boxP ![0, 0, 0] inb_S7x1024x512_S1x1024x512_0_0_0) (rowsW c 0) 40 ((View.wordExact_bits rfl).reshape _ _) (View.wordExact_bits rfl) <|
  wait (boxP ![0, 0, 0] inb_S7x1024x512_S1x1024x512_0_0_0) (rowsW c 6) 46 ((View.wordExact_bits rfl).reshape _ _) (View.wordExact_bits rfl) <|
  wait (boxP ![0, 0, 0] inb_S7x1024x512_S1x1024x512_0_0_0) (rowsW c 1) 41 ((View.wordExact_bits rfl).reshape _ _) (View.wordExact_bits rfl) <|
  wait (boxP ![0, 0, 0] inb_S7x1024x512_S1x1024x512_0_0_0) (rowsW c 5) 45 ((View.wordExact_bits rfl).reshape _ _) (View.wordExact_bits rfl) <|
  wait (boxP ![0, 0, 0] inb_S7x1024x512_S1x1024x512_0_0_0) (rowsW c 2) 42 ((View.wordExact_bits rfl).reshape _ _) (View.wordExact_bits rfl) <|
  wait (boxP ![0, 0, 0] inb_S7x1024x512_S1x1024x512_0_0_0) (rowsW c 4) 44 ((View.wordExact_bits rfl).reshape _ _) (View.wordExact_bits rfl) <|
  wait (boxP ![0, 0, 0] inb_S7x1024x512_S1x1024x512_0_0_0) (rowsW c 3) 43 ((View.wordExact_bits rfl).reshape _ _) (View.wordExact_bits rfl) <| k

/-- The body: the device reads its number and runs the line. -/
def line : P F :=
  .op .deviceId fun c =>
  entry c <| hop0 c <| own0 c <| arr0 c <| pr1 c <| pr7 c <| arr1 c <| pr2 c <| pr6 c <| arr2 c <| pr3 c <| pr5 c <| arr3 c <| pr4 c <| drainH c <| drainB c <| arrB c <| .ret ⟨⟩

set_option maxRecDepth 65536 in
/-- The printed body, at the buffers the launch calls it with, is the line. -/
theorem body_eq :
    cc0_body (F := F) (Memref.whole cc0_stg0_0) (Memref.isWhole_whole _) (Memref.whole main_arg1) (Memref.isWhole_whole _) (Memref.whole main_v1_0)
      (Memref.isWhole_whole _) (Memref.whole main_v1_1) (Memref.isWhole_whole _) (Memref.whole main_v1_2) (Memref.isWhole_whole _)
      (Memref.whole main_v1_3) (Memref.isWhole_whole _) (Memref.whole main_v1_4) (Memref.isWhole_whole _) (Memref.whole main_v1_5)
      (Memref.isWhole_whole _) (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6 cc0_scratch7 cc0_scratch8
      cc0_scratch9 cc0_scratch10 cc0_scratch11 cc0_scratch12 cc0_scratch13 = line := by
  rw [cc0_body_eq_skeleton]
  rfl

end Cert.KernelIdeal.Flat
-- ==== Proof.KernelIdeal.Common.lean ====
/-
The protocol of the kernel's semaphores: what each of a device's semaphores waits for, who pays it and with what, the
order of their levels, and what a device still owes at each point of its line.
-/
module

public import proofs.«01_k».proof.Proof.KernelIdeal.Ring
public import proofs.«01_k».proof.Proof.KernelIdeal.Flat
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.KernelIdeal.Prot

open Cert.KernelIdeal Cert.KernelIdeal.Gen Cert.KernelIdeal.Ring Cert.KernelIdeal.Flat

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's, the cells' rounds, the local copies' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The cells' rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev EC : UEmb Counters (MT nD τ sig Unit (Elt F) ℕ UU ℕ) := countersEmb (U := UU)

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Places -/

/-- A device's slot lies in its array of slots. -/
theorem slot_inb (o : Dev nD) : ∀ a, (![o.val, 0, 0] : Fin 3 → ℕ) a + S1x4096x512.size a ≤ S8x4096x512.size a := by
  revert o; decide +kernel
/-- A device's rows lie in the result. -/
theorem rows_inb (o : Dev nD) : ∀ a, (![1024 * o.val, 0] : Fin 2 → ℕ) a + S1024x512.size a ≤ S8192x512.size a := by
  revert o; decide +kernel

/-- Device `o`'s slot of a travelling array, and device `o`'s rows of a result. -/
abbrev slotC (M : Memref sig .tc .hbm S8x4096x512 .f32) (o : Dev nD) : Memref sig .tc .hbm S4096x512 .f32 := slotM M ![o.val, 0, 0] (slot_inb o)
abbrev rowsO (o : Dev nD) : Memref sig .tc .hbm S1024x512 .f32 := rowsM ![1024 * o.val, 0] (rows_inb o)

/-! ## Contents -/

/-- Device `c`'s rows of the left operand, as the launch stages them, and its columns of the right operand. -/
def xAt (c : Dev nD) : (cc0_stg0_0 : Ref sig .tc).ty.Contents (Elt F) :=
  (win0_0.blk (0 : Fin 1)).view.read (Elt F) ((s₀ m ρ).mem ((c : Thread nD τ).loc main_arg0))
def wAt (c : Dev nD) : (main_arg1 : Ref sig .tc).ty.Contents (Elt F) := m ((c : Thread nD τ).loc main_arg1)

/-- The upper and lower halves of device `o`'s columns. -/
def topW (o : Dev nD) : S4096x512.Idx → Elt F .f32 := (topH wM).view.read (Elt F) (wAt m o)
def botW (o : Dev nD) : S4096x512.Idx → Elt F .f32 := (botH wM).view.read (Elt F) (wAt m o)

/-- One block of the result: device `j`'s rows by device `o`'s columns. -/
def blkV (j o : Dev nD) : S1024x512.Idx → Elt F .f32 :=
  k0_pay4 (F := F) (k0_pay1 (xAt m ρ j) (wAt m o)) (k0_pay2 (xAt m ρ j) (wAt m o)) (k0_pay3 (xAt m ρ j) (wAt m o))

/-! ## Holdings -/

/-- Device `c` holds memref `M`'s elements at share `q`, reading `v` there; and at any contents. -/
def hold {sp : Space} {sh : Shape} (c : Dev nD) (M : Memref sig .tc sp sh .f32) (q : PosShare TreeShare) (v : sh.Idx → Elt F .f32) : sProp 𝕄 :=
  iprop(∃ f, (M.view.loc (c : Thread nD τ) ↦[M.view.set]{q} f) ∗ ⌜M.view.read (Elt F) f = v⌝)
def any {sp : Space} {sh : Shape} (c : Dev nD) (M : Memref sig .tc sp sh .f32) : sProp 𝕄 :=
  iprop(∃ f : Buf (Elt F) (M.view.loc (c : Thread nD τ)), M.view.loc (c : Thread nD τ) ↦[M.view.set]{fullShare} f)

omit [FloatOps F] in
instance hold_storable {sp : Space} {sh : Shape} (c : Dev nD) (M : Memref sig .tc sp sh .f32) (q : PosShare TreeShare) (v : sh.Idx → Elt F .f32) :
    BI.Storable (upEmb : UEmb _ 𝕄) (hold c M q v) := by unfold hold; infer_instance
omit [FloatOps F] in
instance any_storable {sp : Space} {sh : Shape} (c : Dev nD) (M : Memref sig .tc sp sh .f32) :
    BI.Storable (upEmb : UEmb _ 𝕄) (any (F := F) c M) := by unfold any; infer_instance

/-! ## Payloads -/

/-- The slots of its right neighbour a device sends weight halves into, and those of its left neighbour. -/
def rightSlots (c : Dev nD) : sProp 𝕄 :=
  iprop(any (F := F) (right c) (slotC G0 (at_ c 8)) ∗ any (F := F) (right c) (slotC G1 (at_ c 8))
    ∗ any (F := F) (right c) (slotC G0 (at_ c 7)) ∗ any (F := F) (right c) (slotC G1 (at_ c 7))
    ∗ any (F := F) (right c) (slotC G0 (at_ c 6)) ∗ any (F := F) (right c) (slotC G1 (at_ c 6))
    ∗ any (F := F) (right c) (slotC G0 (at_ c 5)))
def leftSlots (c : Dev nD) : sProp 𝕄 :=
  iprop(any (F := F) (left c) (slotC G2 (at_ c 0)) ∗ any (F := F) (left c) (slotC G3 (at_ c 0))
    ∗ any (F := F) (left c) (slotC G2 (at_ c 1)) ∗ any (F := F) (left c) (slotC G3 (at_ c 1))
    ∗ any (F := F) (left c) (slotC G2 (at_ c 2)) ∗ any (F := F) (left c) (slotC G3 (at_ c 2))
    ∗ any (F := F) (left c) (slotC G3 (at_ c 3)))

/-- What device `j`'s signal hands device `c`: `c`'s rows of `j`'s result, and from a neighbour the slots to send into. -/
def barPay (c j : Dev nD) : sProp 𝕄 :=
  iprop(any (F := F) j (rowsO c) ∗ (if j = right c then rightSlots (F := F) c else emp) ∗ (if j = left c then leftSlots (F := F) c else emp))

/-- What the completed copies counted on semaphore `i` of device `c` hand it: a half of another device's columns, or another
    device's block of `c`'s result; a sender's semaphore nothing. -/
def dmaPay (c : Dev nD) (i : Fin 52) : sProp 𝕄 :=
  if 5 ≤ i.val ∧ i.val < 9 then hold c (slotC G0 (at_ c (12 - i.val))) fullShare (topW m (at_ c (12 - i.val)))
  else if 13 ≤ i.val ∧ i.val < 16 then hold c (slotC G1 (at_ c (20 - i.val))) fullShare (botW m (at_ c (20 - i.val)))
  else if 21 ≤ i.val ∧ i.val < 24 then hold c (slotC G2 (at_ c (i.val - 20))) fullShare (topW m (at_ c (i.val - 20)))
  else if 29 ≤ i.val ∧ i.val < 33 then hold c (slotC G3 (at_ c (i.val - 28))) fullShare (botW m (at_ c (i.val - 28)))
  else if 40 ≤ i.val ∧ i.val < 47 then hold c (rowsO (at_ c (i.val - 39))) fullShare (blkV m ρ (at_ c (i.val - 39)) c)
  else iprop(emp)

instance rightSlots_storable (c : Dev nD) : BI.Storable (upEmb : UEmb _ 𝕄) (rightSlots (F := F) c) := by unfold rightSlots; infer_instance
instance leftSlots_storable (c : Dev nD) : BI.Storable (upEmb : UEmb _ 𝕄) (leftSlots (F := F) c) := by unfold leftSlots; infer_instance
instance barPay_storable (c j : Dev nD) : BI.Storable (upEmb : UEmb _ 𝕄) (barPay (F := F) c j) := by
  unfold barPay; (repeat' split) <;> infer_instance
instance dmaPay_storable (c : Dev nD) (i : Fin 52) : BI.Storable (upEmb : UEmb _ 𝕄) (dmaPay m ρ c i) := by
  unfold dmaPay; (repeat' split) <;> infer_instance

/-! ## The schedule -/

/-- What a half of the weights counts, and a block of the result. -/
def NH : ℕ := (topH wM).view.dmaCredit
def NB : ℕ := (rowsO 0).view.dmaCredit
/-- A half counts something. -/
theorem NH_pos : 0 < NH := View.dmaCredit_pos _ (by decide)
/-- A block counts something. -/
theorem NB_pos : 0 < NB := View.dmaCredit_pos _ (by decide)

/-- What the copies counted on semaphore `i` count. -/
def amt (i : Fin 52) : ℕ := if i.val < 33 then NH else NB
/-- Every semaphore expects something. -/
theorem amt_pos (i : Fin 52) : 0 < amt i := by unfold amt; split; exacts [NH_pos, NB_pos]

/-- The semaphores remote copies count on: the senders' and the receivers'. (Index 0 stands for the barrier.) -/
def used : Finset (Fin 52) := Finset.univ.filter fun i => 1 ≤ i.val ∧ i.val < 47 ∧ i.val ∉ [12, 16, 20, 24]

/-- The semaphore of index `i`: the barrier at 0, else DMA semaphore `i`. -/
def csem (i : Fin 52) : SemLoc sig := if i = 0 then .reg barS else .dma i
abbrev cell (c : Dev nD) (i : Fin 52) : GSem nD τ sig := ((c : Thread nD τ), csem i)

/-- Index 0 is the barrier. -/
theorem csem_zero : csem 0 = .reg barS := rfl
/-- Every other index is a copy's semaphore. -/
theorem csem_pos {i : Fin 52} (h : i ≠ 0) : csem i = .dma i := if_neg h

/-- One round. A device's barrier is paid once by each other device; a semaphore of remote copies by one copy. -/
def Rd : Rounds.Schedule (GSem nD τ sig) (Dev nD) 𝕄 where
  duties g r := if r = 0 ∧ g.1.2 = .tc then
    (match g.2 with | .reg s => Finset.univ.erase g.1.1 | .dma i => if i ∈ used then {0} else ∅) else ∅
  amount g _ _ := match g.2 with | .reg _ => 1 | .dma i => amt i
  payload g _ d := match g.2 with | .reg _ => barPay g.1.1 d | .dma i => dmaPay m ρ g.1.1 i
  amount_pos g _ _ _ := by
    rcases g with ⟨_, _ | i⟩
    · exact Nat.one_pos
    · exact amt_pos i

instance Rd_payload_storable (g : GSem nD τ sig) (r : ℕ) (d : Dev nD) : BI.Storable (upEmb : UEmb _ 𝕄) ((Rd m ρ).payload g r d) := by
  rcases g with ⟨_, _ | i⟩
  · exact barPay_storable _ _
  · exact dmaPay_storable m ρ _ _

section Sched
variable (c : Dev nD)

/-- The barrier is paid by each of the other devices. -/
theorem duties_bar : (Rd m ρ).duties ((c : Thread nD τ), .reg barS) 0 = Finset.univ.erase c := by dsimp only [Rd]; exact if_pos ⟨rfl, rfl⟩
/-- A copy's semaphore in use is paid once. -/
theorem duties_dma {i : Fin 52} (hi : i ∈ used) : (Rd m ρ).duties ((c : Thread nD τ), .dma i) 0 = {0} := by
  dsimp only [Rd]; rw [if_pos ⟨rfl, rfl⟩]; exact if_pos hi
/-- One not in use is never paid. -/
theorem duties_unused {i : Fin 52} (hi : i ∉ used) (r : ℕ) : (Rd m ρ).duties ((c : Thread nD τ), .dma i) r = ∅ := by
  dsimp only [Rd]; rw [if_neg hi, ite_self]
/-- Nothing is paid after the first round. -/
theorem duties_later (g : GSem nD τ sig) : ∀ r, 1 ≤ r → (Rd m ρ).duties g r = ∅ :=
  fun r hr => by dsimp only [Rd]; rw [if_neg fun h => by omega]

/-- A signal pays one unit. -/
theorem amount_bar (d : Dev nD) : (Rd m ρ).amount ((c : Thread nD τ), .reg barS) 0 d = 1 := rfl
/-- A copy pays its semaphore's amount. -/
theorem amount_dma (i : Fin 52) (d : Dev nD) : (Rd m ρ).amount ((c : Thread nD τ), .dma i) 0 d = amt i := rfl
/-- A signal hands over the payer's rows and slots. -/
theorem payload_bar (d : Dev nD) : (Rd m ρ).payload ((c : Thread nD τ), .reg barS) 0 d = barPay c d := rfl
/-- A copy hands over what it carried. -/
theorem payload_dma (i : Fin 52) (d : Dev nD) : (Rd m ρ).payload ((c : Thread nD τ), .dma i) 0 d = dmaPay m ρ c i := rfl

/-- The barrier expects seven units. -/
theorem expect_bar : (Rd m ρ).expect ((c : Thread nD τ), .reg barS) 0 = 7 := by
  unfold Schedule.expect Schedule.amountOf
  rw [duties_bar, Finset.sum_congr rfl fun d _ => amount_bar m ρ c d, Finset.sum_const, Finset.card_erase_of_mem (Finset.mem_univ _)]
  rfl
/-- A copy's semaphore expects the copy's amount. -/
theorem expect_dma {i : Fin 52} (hi : i ∈ used) : (Rd m ρ).expect ((c : Thread nD τ), .dma i) 0 = amt i := by
  unfold Schedule.expect Schedule.amountOf; rw [duties_dma m ρ c hi, Finset.sum_singleton, amount_dma]

/-- The wait on the barrier gives what all the others hand over. -/
theorem rest_bar : bigSep ((Rd m ρ).duties ((c : Thread nD τ), .reg barS) 0 \ ∅) (fun d => (Rd m ρ).payload ((c : Thread nD τ), .reg barS) 0 d)
    = bigSep (Finset.univ.erase c) (fun d => barPay (F := F) c d) := by
  rw [Finset.sdiff_empty, duties_bar]; rfl
/-- The wait on a copy's semaphore gives what the copy carried. -/
theorem rest_dma {i : Fin 52} (hi : i ∈ used) :
    bigSep ((Rd m ρ).duties ((c : Thread nD τ), .dma i) 0 \ ∅) (fun d => (Rd m ρ).payload ((c : Thread nD τ), .dma i) 0 d) = dmaPay m ρ c i := by
  rw [Finset.sdiff_empty, duties_dma m ρ c hi, bigSep_singleton, payload_dma]

end Sched

/-! ## Levels and what is owed -/

def L (g : GSem nD τ sig) : Finset Unit := if g.1.2 = .tc then {()} else ∅
/-- A hop's arrivals at 2 and its number; the result blocks' at 10; the senders' and the local copies' at 0. -/
def lvS (i : Fin 52) : ℕ :=
  if 5 ≤ i.val ∧ i.val < 9 then i.val - 3 else if 13 ≤ i.val ∧ i.val < 17 then i.val - 11
  else if 21 ≤ i.val ∧ i.val < 25 then i.val - 19 else if 29 ≤ i.val ∧ i.val < 33 then i.val - 27
  else if 40 ≤ i.val ∧ i.val < 47 then 10 else 0
/-- The barrier at 1. -/
def lv (g : GSem nD τ sig) (_ : Unit) : ℕ := match g.2 with | .reg _ => 1 | .dma i => lvS i

/-- Only the devices' main cores have levels. -/
theorem L_of_ne (g : GSem nD τ sig) (h : g.1.2 ≠ .tc) : L g = ∅ := if_neg h
/-- A main core's semaphores have one level each. -/
theorem L_tc (c : Dev nD) (sm : SemLoc sig) : L ((c : Thread nD τ), sm) = {()} := if_pos rfl

/-- Payment `k` of device `c`: the cell it goes to, its amount, the duty it meets. -/
abbrev pcell (k : Fin 28) (c : Dev nD) : GSem nD τ sig := cell (tgt k c) (rs k)
def pamt (k : Fin 28) : ℕ := if k.val < 7 then 1 else amt (rs k)
def pduty (k : Fin 28) (c : Dev nD) : Dev nD := if k.val < 7 then c else 0
def plv (k : Fin 28) : ℕ := if k.val < 7 then 1 else lvS (rs k)

/-- The payment made when `n` more follow it. -/
def kOf (n : ℕ) : Fin 28 := ⟨27 - n, by omega⟩

/-- What device `c` owes when its last `n` payments are outstanding. -/
def owr (c : Dev nD) : ℕ → CellTallies nD τ sig Unit
  | 0 => 0
  | n + 1 => owr c n + tallyAt (pcell (kOf n) c) () (pamt (kOf n))

/-- Something owed to a cell comes from a payment still to be made. -/
theorem owr_pos {c : Dev nD} {g : GSem nD τ sig} {u : Unit} : ∀ {n : ℕ}, 0 < owr c n g u → ∃ j, j < n ∧ g = pcell (kOf j) c
  | 0, h => absurd h (Nat.lt_irrefl 0)
  | n + 1, h => by
    unfold owr at h
    rw [Pi.add_apply, Finsupp.add_apply, tallyAt_apply] at h
    by_cases hg : g = pcell (kOf n) c ∧ u = ()
    · exact ⟨n, Nat.lt_succ_self n, hg.1⟩
    · rw [if_neg hg, Nat.add_zero] at h
      obtain ⟨j, hj, he⟩ := owr_pos h
      exact ⟨j, Nat.lt_succ_of_lt hj, he⟩

/-- A payment's cell has the payment's level. -/
theorem lv_pcell (k : Fin 28) (c : Dev nD) (u : Unit) : lv (pcell k c) u = plv k := by
  have h : ∀ k : Fin 28, (k.val < 7 → rs k = 0) ∧ (¬ k.val < 7 → rs k ≠ 0) := by decide
  unfold plv
  by_cases hk : k.val < 7
  · rw [if_pos hk]; dsimp only [lv, pcell, cell]; rw [(h k).1 hk, csem_zero]
  · rw [if_neg hk]; dsimp only [lv, pcell, cell]; rw [csem_pos ((h k).2 hk)]

/-- A device may wait on a semaphore below all it still owes. -/
theorem mayWait (c : Dev nD) (sm : SemLoc sig) (n : ℕ) (h : ∀ j, j < n → lv ((c : Thread nD τ), sm) () < plv (kOf j)) :
    (levAts L lv : sProp 𝕄) ⊢ MayWait (c : Thread nD τ) sm () (owr c n) :=
  MayOwe.of_cut (L := L) (lev := lv) (lv ((c : Thread nD τ), sm) ()) (fun p hp => by rw [Finset.mem_singleton.mp hp, L_tc]; exact Finset.mem_singleton_self _)
    (fun g u hg => by obtain ⟨j, -, rfl⟩ := owr_pos hg; exact Finset.mem_singleton_self _)
    (fun p hp => by rw [Finset.mem_singleton.mp hp])
    (fun g u hg => by obtain ⟨j, hj, rfl⟩ := owr_pos hg; rw [lv_pcell]; exact h j hj)

/-! ## The state every step finds -/

/-- Every cell's invariant at a name of its own, every cell's round 0 reached; -/
def records (K : Dev nD × Fin 52 → ℕ) : sProp 𝕄 :=
  bigSep Finset.univ fun ci : Dev nD × Fin 52 => iprop(cellInv ER (Rd m ρ) (K ci) (cell ci.1 ci.2) ∗ reached ER (cell ci.1 ci.2) 0)
instance records_persistent (K : Dev nD × Fin 52 → ℕ) : BI.Persistent (records m ρ K) := by unfold records; infer_instance

/-- … at some names, and the levels. -/
def env : sProp 𝕄 := iprop((∃ K, records m ρ K) ∗ levAts L lv)
instance env_persistent : BI.Persistent (env m ρ) := by unfold env; infer_instance

/-- The records say each cell's invariant and that its first round is reached. -/
theorem records_at (K : Dev nD × Fin 52 → ℕ) (ci : Dev nD × Fin 52) :
    records m ρ K ⊢ iprop(cellInv ER (Rd m ρ) (K ci) (cell ci.1 ci.2) ∗ reached ER (cell ci.1 ci.2) 0) :=
  bigSep_elim (Finset.mem_univ ci)

/-- One cell's invariant and mark out of all. -/
theorem env_cell (c : Dev nD) (i : Fin 52) : env m ρ ⊢ iprop(∃ κ, cellInv ER (Rd m ρ) κ (cell c i) ∗ reached ER (cell c i) 0) := by
  unfold env
  iintro ⟨⟨%K, H⟩, -⟩
  iexists K (c, i)
  iapply (records_at m ρ K (c, i)) $$ H

/-- The records say the levels. -/
theorem env_levs : env m ρ ⊢ levAts L lv := by
  unfold env
  iintro ⟨-, H⟩
  iexact H

/-- The last `n` payments outstanding. -/
def ow (c : Dev nD) (n : ℕ) : sProp 𝕄 := iprop(∃ W, owes (c : Thread nD τ) (owr c n) W)

/-- The counters at zero of the semaphores in `S`. -/
def zs (c : Dev nD) (S : Finset (Fin 52)) : sProp 𝕄 := bigSep S fun i => semVal ((c : Thread nD τ), .dma i) 0

/-- One more counter at zero. -/
theorem zs_insert (c : Dev nD) {S : Finset (Fin 52)} {i : Fin 52} (h : i ∉ S) :
    iprop(semVal ((c : Thread nD τ), .dma i) 0 ∗ zs (F := F) c S) ⊢ zs (F := F) c (insert i S) := by
  unfold zs; rw [BI.bigSep_insert h]; exact .rfl

end Cert.KernelIdeal.Prot
-- ==== Proof.KernelIdeal.Steps.lean ====
/-
One rule for each kind of step of the line: a remote copy, a wait on a cell, a copy within the device.
-/
module

public import proofs.«01_k».proof.Proof.KernelIdeal.Common

@[expose] public section

set_option maxRecDepth 16384

noncomputable section

namespace Cert.KernelIdeal.Prot

open Cert.KernelIdeal Cert.KernelIdeal.Gen Cert.KernelIdeal.Ring Cert.KernelIdeal.Flat

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` runs `p` to `Q`. -/
abbrev WP (c : Dev nD) (p : P F) (Q : PUnit → sProp 𝕄) : sProp 𝕄 :=
  wp frame (wpE (defs₀ (F := F)) 𝒱₀ (c : Thread nD τ) none) Set.univ p Q

variable (c : Dev nD)

/-! ## Holdings split -/

/-- An array held by a share is held by the share's two parts. -/
theorem hold_split {sp : Space} {sh : Shape} {M : Memref sig .tc sp sh .f32} {q q₁ q₂ : PosShare TreeShare} (h : q ∈ q₁ ·? q₂) (v : sh.Idx → Elt F .f32) :
    hold c M q v ⊢ iprop(hold c M q₁ v ∗ hold c M q₂ v) := by
  unfold hold
  iintro ⟨%f, H, %hf⟩
  ihave H' := (pointsTo_share h).mp $$ H
  icases H' with ⟨H1, H2⟩
  isplitl [H1]
  · iexists f; isplitl; · iexact H1
    ipureintro; exact hf
  · iexists f; isplitl; · iexact H2
    ipureintro; exact hf

/-- Known contents may be forgotten. -/
theorem hold_any {sp : Space} {sh : Shape} {M : Memref sig .tc sp sh .f32} (v : sh.Idx → Elt F .f32) : hold c M fullShare v ⊢ any (F := F) c M := by
  unfold hold any
  iintro ⟨%f, H, -⟩
  iexists f; iexact H

/-- Anything can be dropped. -/
theorem drop_emp {A : sProp 𝕄} : A ⊢ iprop(emp) := by iintro -; iempintro

/-! ## A remote copy -/

/-- Payment `k`, a copy: the source's share and the destination's elements on the receiver go, with the two duties; the
    sender's credit comes, and one payment less is owed. -/
theorem send_wp {sh : Shape} {src dst : Memref sig .tc .hbm sh .f32} {d : Dev nD} {s r : Fin 52} {h₁ : src.view.WordExact} {h₂ : dst.view.WordExact}
    {kt : P F} {Q : PUnit → sProp 𝕄} {n : ℕ} {q : PosShare TreeShare} {v : sh.Idx → Elt F .f32} (k : Fin 28) (hd : d = tgt k c)
    (hk : kOf n = k ∧ ¬ k.val < 7 ∧ ss k = s ∧ rs k = r ∧ s ∈ used ∧ r ∈ used ∧ amt s = amt r ∧ r ≠ 0)
    (hN : dst.view.dmaCredit = amt r)
    (hs : (iprop(emp) : sProp 𝕄) = dmaPay m ρ c s)
    (hp : hold (tgt k c) dst fullShare v = dmaPay m ρ (tgt k c) r) :
    iprop(env m ρ ∗ hold c src q v ∗ any (F := F) d dst ∗ ow c (n + 1) ∗ dutyTok ER ((c : Thread nD τ), .dma s) 0 0 ∗ dutyTok ER ((tgt k c : Thread nD τ), .dma r) 0 0)
      ⊢ iprop(((cred (tallyAt ((c : Thread nD τ), .dma s) () (amt s)) ∗ ow c n) -∗ WP c kt Q) -∗ WP c (send src dst d s r h₁ h₂ kt) Q) := by
  obtain ⟨hkn, hk7, hks, hkr, hus, hur, ham, hr0⟩ := hk
  subst hd
  unfold hold any ow
  iintro ⟨#He, ⟨%fs, Hs, %hv⟩, ⟨%fd, Hd⟩, ⟨%W, HO⟩, Ht1, Ht2⟩ Hk
  ihave #H1 := (env_cell m ρ c s) $$ He
  ihave #H2 := (env_cell m ρ (tgt k c) r) $$ He
  icases H1 with ⟨%κ₁, HI1, Hr1⟩
  icases H2 with ⟨%κ₂, HI2, Hr2⟩
  have hs0 : s ≠ 0 := by rintro rfl; revert hus; decide
  simp only [cell, csem_pos hs0, csem_pos hr0]
  have hO : owr c (n + 1) = owr c n + tallyAt ((tgt k c : Thread nD τ), .dma r) () (amt s) := by
    rw [owr, hkn]; dsimp only [pcell, cell]; rw [hkr, csem_pos hr0, pamt, if_neg hk7, hkr, ham]
  unfold send
  iapply (Rounds.wp_send_pointsTo 𝒱₀ ER (Rd m ρ) (c : Thread nD τ) none (src := src) (dst := dst) (c' := (tgt k c : Thread nD τ)) (sS := .dma s) (sem := .dma r) (κ₁ := κ₁) (κ₂ := κ₂)
    (r₁ := 0) (r₂ := 0) (d₁ := 0) (d₂ := 0) (fs := fs) (fd := fd)
    (by rw [duties_dma m ρ c hus]; exact Finset.mem_singleton_self _) (by rw [duties_dma m ρ _ hur]; exact Finset.mem_singleton_self _)
    () () (amt s) (hN.trans ham.symm) (amount_dma m ρ c s 0) ((amount_dma m ρ _ r 0).trans ham.symm) (owr c n) hO (W := W)
    (by rw [payload_dma, ← hs]; exact drop_emp)
    (by
      rw [payload_dma, ← hp]; unfold hold
      iintro H; iexists _
      isplitl; · iexact H
      ipureintro; rw [View.read_write_univ]; exact hv)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-! ## A wait on a cell of remote copies -/

/-- The wait on a semaphore remote copies count on: its payload comes, and its counter back at zero. -/
theorem recv_wp {sp sp' : Space} {sh : Shape} {src : Memref sig .tc sp sh .f32} {dst : Memref sig .tc sp' sh .f32} {i : Fin 52}
    {h₁ : src.view.WordExact} {h₂ : dst.view.WordExact} {kt : P F} {Q : PUnit → sProp 𝕄} {n : ℕ} {S : Finset (Fin 52)}
    (hi : i ∈ used ∧ i ∉ S ∧ ∀ j, j < n → lvS i < plv (kOf j))
    (hN : dst.view.dmaCredit = amt i) :
    iprop(env m ρ ∗ ow c n ∗ cred (tallyAt ((c : Thread nD τ), .dma i) () (amt i)) ∗ atPos ER ((c : Thread nD τ), .dma i) 0 ∅ 0 ∗ zs (F := F) c S)
      ⊢ iprop(((ow c n ∗ dmaPay m ρ c i ∗ zs (F := F) c (insert i S)) -∗ WP c kt Q) -∗ WP c (wait src dst i h₁ h₂ kt) Q) := by
  obtain ⟨hu, hS, hl⟩ := hi
  unfold ow
  iintro ⟨#He, ⟨%W, HO⟩, Hc, Hat, Hz⟩ Hk
  have hi0 : i ≠ 0 := by rintro rfl; revert hu; decide
  ihave #H1 := (env_cell m ρ c i) $$ He
  icases H1 with ⟨%κ, HI, Hr⟩
  simp only [cell, csem_pos hi0]
  ihave #Hl := (env_levs m ρ) $$ He
  unfold wait
  iapply (Rounds.wp_wait_rest_token 𝒱₀ ER (Rd m ρ) (c : Thread nD τ) none (κ := κ)
      (wpE_waitDma2_eq 𝒱₀ (c : Thread nD τ) none Set.univ) (Set.mem_univ _) () (O := owr c n) (W := W) (R := 0) (m := 0) (T := ∅)
      (by rw [Nat.zero_add, expect_dma m ρ c hu, hN])) $$ [Hc HO Hat]
  · isplitr; · iexact HI
    isplitl [Hc]; · rw [hN]; iexact Hc
    isplitl [HO]; · iexact HO
    isplitr; · iapply (mayWait c (.dma i) n hl); iexact Hl
    iexact Hat
  iintro ⟨HO, Hat, -, Hpay⟩
  ihave Hp := (Entails.of_eq (rest_dma m ρ c hu)) $$ Hpay
  imod (Rounds.cell_close ER (Rd m ρ) (Set.mem_univ κ) (fun h => h) (R := 0 + 1) (duties_later m ρ ((c : Thread nD τ), .dma i))) $$ [Hat] with Hv
  · isplitr; · iexact HI
    iexact Hat
  iapply Hk
  isplitl [HO]; · iexists _; iexact HO
  isplitl [Hp]; · iexact Hp
  iapply (zs_insert c hS)
  isplitl [Hv]; · iexact Hv
  iexact Hz

/-! ## A copy within the device -/

/-- The start of a local copy: source share and destination given up until its wait. -/
theorem copy_wp {sp sp' : Space} {sh : Shape} {src : Memref sig .tc sp sh .f32} {dst : Memref sig .tc sp' sh .f32} {s : Fin 52}
    {h₁ : src.view.WordExact} {h₂ : dst.view.WordExact} {ht} {kt : P F} {Q : PUnit → sProp 𝕄} {q : PosShare TreeShare}
    {Sd : Finset (Idx (dst.view.loc (c : Thread nD τ)))}
    {N : ℕ} (hN : dst.view.dmaCredit = N) (hN0 : 0 < N) (hSd : dst.view.set ⊆ Sd) {fs : Buf (Elt F) (src.view.loc (c : Thread nD τ))}
    {fd : Buf (Elt F) (dst.view.loc (c : Thread nD τ))} :
    iprop((src.view.loc (c : Thread nD τ) ↦[src.view.set]{q} fs) ∗ (dst.view.loc (c : Thread nD τ) ↦[Sd]{fullShare} fd) ∗ semVal ((c : Thread nD τ), .dma s) 0)
      ⊢ iprop((Transfers.Flight EC (c : Thread nD τ) (.dma s) () N
            iprop((dst.view.loc (c : Thread nD τ) ↦[Sd]{fullShare} (dst.view.write (Elt F) fd (src.view.read (Elt F) fs) Finset.univ))
              ∗ (src.view.loc (c : Thread nD τ) ↦[src.view.set]{q} fs)) -∗ WP c kt Q)
          -∗ WP c (copy src dst s h₁ h₂ ht kt) Q) := by
  unfold copy
  have hi : (EC (F := F)).LandsIn (upEmb : UEmb _ 𝕄) := inferInstance
  exact Transfers.wp_dmaLocal (src := src) (dst := dst) (via := .same) (sm := .dma s) (fs := fs) (fd := fd) (q := q) (defs := defs₀ (F := F)) (k := fun _ => kt) (Q := Q) EC 𝒱₀ (c : Thread nD τ) none () N hN hN0 hSd

/-- Its wait. -/
theorem copied_wp {sp sp' : Space} {sh : Shape} {src : Memref sig .tc sp sh .f32} {dst : Memref sig .tc sp' sh .f32} {s : Fin 52}
    {h₁ : src.view.WordExact} {h₂ : dst.view.WordExact} {kt : P F} {Q : PUnit → sProp 𝕄} {D : sProp 𝕄} {N n : ℕ} (hN : dst.view.dmaCredit = N)
    (hl : ∀ j, j < n → lvS s < plv (kOf j)) :
    iprop(env m ρ ∗ Transfers.Flight EC (c : Thread nD τ) (.dma s) () N D ∗ ow c n)
      ⊢ iprop(((D ∗ semVal ((c : Thread nD τ), .dma s) 0 ∗ ow c n) -∗ WP c kt Q) -∗ WP c (wait src dst s h₁ h₂ kt) Q) := by
  unfold ow
  iintro ⟨#He, Hf, ⟨%W, HO⟩⟩ Hk
  ihave #Hl := (env_levs m ρ) $$ He
  unfold wait
  iapply (Transfers.wp_waitLocalO EC 𝒱₀ (c : Thread nD τ) none () hN (O := owr c n) (W := W)) $$ [Hf HO]
  · isplitl [Hf]; · iexact Hf
    isplitl [HO]; · iexact HO
    iapply (mayWait c (.dma s) n hl); iexact Hl
  iintro ⟨HD, Hv, HO⟩
  iapply Hk
  isplitl [HD]; · iexact HD
  isplitl [Hv]; · iexact Hv
  iexists _; iexact HO

end Cert.KernelIdeal.Prot
-- ==== Proof.KernelIdeal.Segs.lean ====
/-
The longer steps of the line: the entry's signals and wait, a weight block brought into the stage, a product.
-/
module

public import proofs.«01_k».proof.Proof.KernelIdeal.Steps
public import Idealize.ShloMosaic.Lib.VecWindow
public import Idealize.ShloMosaic.Lib.Pipeline.Value

@[expose] public section

set_option maxRecDepth 16384

noncomputable section

namespace Cert.KernelIdeal.Prot

open Cert.KernelIdeal Cert.KernelIdeal.Gen Cert.KernelIdeal.Ring Cert.KernelIdeal.Flat

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

/-! ## The entry -/

/-- Payment `k`, a signal of another device's barrier: what it hands over goes, with its duty; one payment less is owed. -/
theorem signal_wp {d : Dev nD} {kt : P F} {Q : PUnit → sProp 𝕄} {n : ℕ} (k : Fin 28) (hd : d = tgt k c)
    (hk : kOf n = k ∧ k.val < 7) (hc : c ≠ tgt k c) :
    iprop(env m ρ ∗ ow c (n + 1) ∗ dutyTok ER ((tgt k c : Thread nD τ), .reg barS) 0 c ∗ barPay (F := F) (tgt k c) c)
      ⊢ iprop((ow c n -∗ WP c kt Q) -∗ WP c (signal d kt) Q) := by
  obtain ⟨hkn, hk7⟩ := hk
  subst hd
  unfold ow
  iintro ⟨#He, ⟨%W, HO⟩, Ht, Hp⟩ Hk
  ihave #H1 := (env_cell m ρ (tgt k c) 0) $$ He
  icases H1 with ⟨%κ, HI, Hr⟩
  simp only [cell, csem_zero]
  have hrs : ∀ k : Fin 28, k.val < 7 → rs k = 0 := by decide
  have hO : owr c (n + 1) = owr c n + tallyAt ((tgt k c : Thread nD τ), .reg barS) () 1 := by
    rw [owr, hkn]; dsimp only [pcell, cell]; rw [hrs k hk7, csem_zero, pamt, if_pos hk7]
  unfold signal
  iapply (Rounds.wp_signal 𝒱₀ ER (Rd m ρ) (c : Thread nD τ) none (dst := (tgt k c : Thread nD τ)) (sem := barS) (κ := κ) (r := 0) (d := c) (k' := 1)
      (k := fun _ => kt) (Q := Q)
      (by rw [duties_bar]; exact Finset.mem_erase.mpr ⟨hc, Finset.mem_univ _⟩) (amount_bar m ρ (tgt k c) c) () (owr c n) hO (W := W)) $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

/-- The wait for the seven other devices' signals: what they hand over comes, and the counter back at zero. -/
theorem barWait_wp {kt : P F} {Q : PUnit → sProp 𝕄} {n : ℕ} (hl : ∀ j, j < n → 1 < plv (kOf j)) :
    iprop(env m ρ ∗ ow c n ∗ cred (tallyAt ((c : Thread nD τ), .reg barS) () 7) ∗ atPos ER ((c : Thread nD τ), .reg barS) 0 ∅ 0)
      ⊢ iprop(((ow c n ∗ bigSep (Finset.univ.erase c) (fun d => barPay (F := F) c d) ∗ semVal ((c : Thread nD τ), .reg barS) 0) -∗ WP c kt Q)
        -∗ WP c (barWait kt) Q) := by
  unfold ow
  iintro ⟨#He, ⟨%W, HO⟩, Hc, Hat⟩ Hk
  ihave #H1 := (env_cell m ρ c 0) $$ He
  icases H1 with ⟨%κ, HI, Hr⟩
  simp only [cell, csem_zero]
  ihave #Hl := (env_levs m ρ) $$ He
  unfold barWait
  iapply (Rounds.wp_wait_rest_token 𝒱₀ ER (Rd m ρ) (c : Thread nD τ) none (κ := κ)
      (wpE_semWait_eq 𝒱₀ (c : Thread nD τ) none Set.univ) (Set.mem_univ _) () (O := owr c n) (W := W) (R := 0) (m := 0) (T := ∅)
      (by rw [Nat.zero_add, expect_bar])) $$ [Hc HO Hat]
  · isplitr; · iexact HI
    isplitl [Hc]; · iexact Hc
    isplitl [HO]; · iexact HO
    isplitr; · iapply (mayWait c (.reg barS) n hl); iexact Hl
    iexact Hat
  iintro ⟨HO, Hat, -, Hpay⟩
  ihave Hp := (Entails.of_eq (rest_bar m ρ c)) $$ Hpay
  imod (Rounds.cell_close ER (Rd m ρ) (Set.mem_univ κ) (fun h => h) (R := 0 + 1) (duties_later m ρ ((c : Thread nD τ), .reg barS))) $$ [Hat] with Hv
  · isplitr; · iexact HI
    iexact Hat
  iapply Hk
  isplitl [HO]; · iexists _; iexact HO
  isplitl [Hp]; · iexact Hp
  iexact Hv

/-! ## The stage -/

/-- The stage's upper half is its rows below 4096. -/
theorem mem_top (i : S8192x512.Idx) : i ∈ (topH stM).view.set ↔ (i 0).val < 4096 := by
  rw [show (topH stM).view.set = (Rect.unit (s := S8192x512) ![0, 0] S4096x512.size inb_S8192x512_S4096x512_0_0).set from View.set_slice_whole _ _, Rect.mem_set_unit]
  constructor
  · intro h; have := (h 0).2; simpa using this
  · intro h a
    match a with
    | ⟨0, _⟩ => exact ⟨Nat.zero_le _, by show (i 0).val < 0 + 4096; omega⟩
    | ⟨1, _⟩ => exact ⟨Nat.zero_le _, by have := (i 1).isLt; show (i 1).val < 0 + 512; simpa using this⟩

/-- The lower half is the rows from 4096 on. -/
theorem mem_bot (i : S8192x512.Idx) : i ∈ (botH stM).view.set ↔ 4096 ≤ (i 0).val := by
  rw [show (botH stM).view.set = (Rect.unit (s := S8192x512) ![4096, 0] S4096x512.size inb_S8192x512_S4096x512_4096_0).set from View.set_slice_whole _ _, Rect.mem_set_unit]
  constructor
  · intro h; exact (h 0).1
  · intro h a
    match a with
    | ⟨0, _⟩ => exact ⟨h, by have := (i 0).isLt; show (i 0).val < 4096 + 4096; simpa using this⟩
    | ⟨1, _⟩ => exact ⟨Nat.zero_le _, by have := (i 1).isLt; show (i 1).val < 0 + 512; simpa using this⟩

/-- A whole array's view reaches every entry. -/
theorem set_all (b : Ref sig .tc) : (Memref.whole b).view.set = Finset.univ := View.set_whole _
/-- So does the stage's. -/
theorem set_st : stM.view.set = Finset.univ := set_all _

/-- The lower half lies outside of the upper one. -/
theorem bot_sub : (botH stM).view.set ⊆ stM.view.set \ (topH stM).view.set := by
  intro i hi
  rw [Finset.mem_sdiff, set_st]
  refine ⟨Finset.mem_univ _, fun h => ?_⟩
  have h1 := (mem_bot i).mp hi; have h2 := (mem_top i).mp h; omega

/-- The upper half written over from `w`'s upper half is `w` there; the lower likewise. -/
theorem top_write (f w : (cc0_scratch0 : Ref sig .tc).ty.Contents (Elt F)) (u : S4096x512.Idx → Elt F .f32)
    (hu : u = (topH stM).view.read (Elt F) w) : ∀ i ∈ (topH stM).view.set, (topH stM).view.write (Elt F) f u Finset.univ i = w i := by
  subst hu
  intro i hi
  obtain ⟨x, -, rfl⟩ := Finset.mem_map.mp hi
  rw [View.write_emb_of_mem _ _ (Finset.mem_univ x)]; rfl
/-- Writing the lower half of an array makes everything outside of the upper half agree with it. -/
theorem bot_write (f w : (cc0_scratch0 : Ref sig .tc).ty.Contents (Elt F)) (u : S4096x512.Idx → Elt F .f32)
    (hu : u = (botH stM).view.read (Elt F) w) : ∀ i ∈ stM.view.set \ (topH stM).view.set, (botH stM).view.write (Elt F) f u Finset.univ i = w i := by
  subst hu
  intro i hi
  have hi' : i ∈ (botH stM).view.set := by
    rw [mem_bot]; by_contra h
    exact (Finset.mem_sdiff.mp hi).2 ((mem_top i).mpr (by omega))
  obtain ⟨x, -, rfl⟩ := Finset.mem_map.mp hi'
  rw [View.write_emb_of_mem _ _ (Finset.mem_univ x)]; rfl

/-- The stage's two copies and their waits: from both halves of device `o`'s columns, the stage at those columns. -/
theorem fetch_wp {top bot : Memref sig .tc .hbm S4096x512 .f32} {h₁ : top.view.WordExact} {h₂ : bot.view.WordExact} {kt : P F}
    {Q : PUnit → sProp 𝕄} {n : ℕ} {q₁ q₂ : PosShare TreeShare} (o : Dev nD) (hl : ∀ j, j < n → 0 < plv (kOf j)) :
    iprop(env m ρ ∗ ow c n ∗ hold c top q₁ (topW m o) ∗ hold c bot q₂ (botW m o) ∗ any (F := F) c stM
        ∗ semVal ((c : Thread nD τ), .dma 47) 0 ∗ semVal ((c : Thread nD τ), .dma 48) 0)
      ⊢ iprop(((ow c n ∗ hold c stM fullShare (wAt m o)
        ∗ semVal ((c : Thread nD τ), .dma 47) 0 ∗ semVal ((c : Thread nD τ), .dma 48) 0) -∗ WP c kt Q) -∗ WP c (fetch top bot h₁ h₂ kt) Q) := by
  unfold hold any fetch
  iintro ⟨#He, HO, ⟨%ft, Ht, %ht⟩, ⟨%fb, Hb, %hb⟩, ⟨%f, Hst⟩, Hv1, Hv2⟩ Hk
  have hsub : (topH stM).view.set ⊆ stM.view.set := by rw [set_st]; exact Finset.subset_univ _
  ihave H2 := (pointsTo_split_subset hsub).1 $$ Hst
  icases H2 with ⟨HA, HB⟩
  iapply (copy_wp c (src := top) (dst := topH stM) (s := 47) rfl NH_pos (Finset.Subset.refl _) (fs := ft) (fd := f)) $$ [Ht HA Hv1]
  · isplitl [Ht]; · iexact Ht
    isplitl [HA]; · iexact HA
    iexact Hv1
  iintro Hf1
  iapply (copy_wp c (src := bot) (dst := botH stM) (s := 48) rfl NH_pos bot_sub (fs := fb) (fd := f)) $$ [Hb HB Hv2]
  · isplitl [Hb]; · iexact Hb
    isplitl [HB]; · iexact HB
    iexact Hv2
  iintro Hf2
  iapply (copied_wp m ρ c (src := top) (dst := topH stM) (s := 47) (n := n) rfl hl) $$ [Hf1 HO]
  · isplitr; · iexact He
    isplitl [Hf1]; · iexact Hf1
    iexact HO
  iintro ⟨⟨HA, -⟩, Hv1, HO⟩
  iapply (copied_wp m ρ c (src := bot) (dst := botH stM) (s := 48) (n := n) rfl hl) $$ [Hf2 HO]
  · isplitr; · iexact He
    isplitl [Hf2]; · iexact Hf2
    iexact HO
  iintro ⟨⟨HB, -⟩, Hv2, HO⟩
  iapply Hk
  isplitl [HO]; · iexact HO
  isplitl [HA HB]
  · iexists (wAt m o)
    isplitl [HA HB]
    · iapply (pointsTo_split_subset hsub).2
      isplitl [HA]
      · iapply (Entails.of_eq (pointsTo_congr (top_write f (wAt m o) _ (ht.trans rfl)))) $$ HA
      · iapply (Entails.of_eq (pointsTo_congr (bot_write f (wAt m o) _ (hb.trans rfl)))) $$ HB
    ipureintro; rfl
  isplitl [Hv1]; · iexact Hv1
  iexact Hv2

/-! ## The products -/

/-- Reading a place of the send buffer after it was stored gives what was stored. -/
theorem buf_read {off : Fin 3 → ℕ} (h : ∀ a, off a + S1x1024x512.size a ≤ S2x1024x512.size a) (f : (cc0_scratch2 : Ref sig .tc).ty.Contents (Elt F))
    (u : S1x1024x512.Idx → Elt F .f32) :
    (bufP off h).view.read (Elt F) ((bufM.access (Rect.unit (s := S2x1024x512) off S1x1024x512.size h)).write (Elt F) f u Finset.univ)
      = shapeCast S1024x512 u (by decide) := by
  rw [Memref.read_squeeze_slice _ _ _ _ (show S1x1024x512.ShapeCasts S1024x512 by decide), View.readAt_rect]
  exact congrArg (fun z => shapeCast S1024x512 z _) (View.read_write_univ _ _)

/-- The product of the stage's columns, written to place `off` of the two-place buffer. -/
theorem prod_wp {off : Fin 3 → ℕ} {h : ∀ a, off a + S1x1024x512.size a ≤ S2x1024x512.size a}
    {pay : Vec F S1024x8192 .f32 → Vec F S8192x512 .f32 → FVec F S1x1024x512 .f32} {kt : P F} {Q : PUnit → sProp 𝕄}
    {x : Vec F S1024x8192 .f32} {w : Vec F S8192x512 .f32} {v : S1024x512.Idx → Elt F .f32}
    (hv : shapeCast S1024x512 (pay x w) (by decide) = v) :
    iprop(hold c xM fullShare x ∗ hold c stM fullShare w ∗ any (F := F) c (bufP off h))
      ⊢ iprop(((hold c xM fullShare x ∗ hold c stM fullShare w ∗ hold c (bufP off h) fullShare v) -∗ WP c kt Q) -∗ WP c (prod off h pay kt) Q) := by
  unfold hold any Flat.prod
  iintro ⟨⟨%fx, Hx, %hx⟩, ⟨%fw, Hw, %hw⟩, ⟨%fb, Hb⟩⟩ Hk
  iapply (wp_load 𝒱₀ (c : Thread nD τ) none Set.univ (m := xM) (Finset.subset_univ _ |>.trans (set_all _).ge)) $$ Hx
  iintro Hx
  rw [View.readAt_full, hx]
  iapply (wp_load 𝒱₀ (c : Thread nD τ) none Set.univ (m := stM) (Finset.subset_univ _ |>.trans (set_all _).ge)) $$ Hw
  iintro Hw
  rw [View.readAt_full, hw]
  have hS : (bufM.access (Rect.unit (s := S2x1024x512) off S1x1024x512.size h)).set = (bufP off h).view.set := (View.set_reshape _ _).symm
  iapply (wp_load_rect 𝒱₀ (c : Thread nD τ) none Set.univ (m := bufM) (hS.le)) $$ Hb
  iintro Hb
  iapply (wp_store 𝒱₀ (c : Thread nD τ) none Set.univ (m := bufM) (r := Rect.unit (s := S2x1024x512) off S1x1024x512.size h) (Mk := Finset.univ)
    (by rw [View.setOn_univ]; exact hS.le)) $$ Hb
  iintro Hb
  iapply Hk
  isplitl [Hx]; · iexists fx; isplitl [Hx]; · iexact Hx
                  ipureintro; exact hx
  isplitl [Hw]; · iexists fw; isplitl [Hw]; · iexact Hw
                  ipureintro; exact hw
  iexists _
  isplitl [Hb]; · iexact Hb
  ipureintro
  exact (buf_read h fb _).trans hv

/-- Reading the own block's buffer after it was stored gives what was stored. -/
theorem own_read (f : (cc0_scratch1 : Ref sig .tc).ty.Contents (Elt F)) (u : S1024x512.Idx → Elt F .f32) :
    ownM.view.read (Elt F) ((ownM.access (Rect.unit (s := S1024x512) ![0, 0] S1024x512.size inb_S1024x512_S1024x512_0_0)).write (Elt F) f u Finset.univ)
      = u :=
  (congrArg (ownM.view.read (Elt F)) (Memref.write_access_unit_zero_univ (Elt F) cc0_scratch1 (off := ![0, 0]) (by funext a; fin_cases a <;> rfl) inb_S1024x512_S1024x512_0_0 f u)).trans rfl

/-- The own product, written to its buffer. -/
theorem own_wp {pay : Vec F S1024x8192 .f32 → Vec F S8192x512 .f32 → FVec F S1024x512 .f32} {kt : P F} {Q : PUnit → sProp 𝕄}
    {x : Vec F S1024x8192 .f32} {w : Vec F S8192x512 .f32} :
    iprop(hold c xM fullShare x ∗ hold c stM fullShare w ∗ any (F := F) c ownM)
      ⊢ iprop(((hold c xM fullShare x ∗ hold c stM fullShare w ∗ hold c ownM fullShare (pay x w)) -∗ WP c kt Q) -∗ WP c (Flat.own pay kt) Q) := by
  unfold hold any Flat.own
  iintro ⟨⟨%fx, Hx, %hx⟩, ⟨%fw, Hw, %hw⟩, ⟨%fb, Hb⟩⟩ Hk
  iapply (wp_load 𝒱₀ (c : Thread nD τ) none Set.univ (m := xM) (Finset.subset_univ _ |>.trans (set_all _).ge)) $$ Hx
  iintro Hx
  rw [View.readAt_full, hx]
  iapply (wp_load 𝒱₀ (c : Thread nD τ) none Set.univ (m := stM) (Finset.subset_univ _ |>.trans (set_all _).ge)) $$ Hw
  iintro Hw
  rw [View.readAt_full, hw]
  iapply (wp_load 𝒱₀ (c : Thread nD τ) none Set.univ (m := ownM) (View.setOn_subset_set _ _)) $$ Hb
  iintro Hb
  iapply (wp_store 𝒱₀ (c : Thread nD τ) none Set.univ (m := ownM)
    (r := Rect.unit (s := S1024x512) ![0, 0] S1024x512.size inb_S1024x512_S1024x512_0_0) (Mk := Finset.univ)
    (View.set_slice_subset _ _)) $$ Hb
  iintro Hb
  iapply Hk
  isplitl [Hx]; · iexists fx; isplitl [Hx]; · iexact Hx
                  ipureintro; exact hx
  isplitl [Hw]; · iexists fw; isplitl [Hw]; · iexact Hw
                  ipureintro; exact hw
  iexists _
  isplitl [Hb]; · iexact Hb
  ipureintro
  exact own_read fb _

end Cert.KernelIdeal.Prot
-- ==== Proof.KernelIdeal.Block.lean ====
/-
A block of the result for another device: its weights fetched, the product, the copy to its receiver.
-/
module

public import proofs.«01_k».proof.Proof.KernelIdeal.Segs

@[expose] public section

set_option maxRecDepth 16384

noncomputable section

namespace Cert.KernelIdeal.Prot

open Cert.KernelIdeal Cert.KernelIdeal.Gen Cert.KernelIdeal.Ring Cert.KernelIdeal.Flat

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

/-! ## Slots and rows in closed form -/

/-- Equal offsets name the same slot. -/
theorem slotM_congr (M : Memref sig .tc .hbm S8x4096x512 .f32) {off off' : Fin 3 → ℕ} (e : off = off') (h h') : slotM M off h = slotM M off' h' := by
  subst e; rfl
/-- Equal offsets name the same rows. -/
theorem rowsM_congr {off off' : Fin 2 → ℕ} (e : off = off') (h h') : rowsM off h = rowsM off' h' := by
  subst e; rfl

/-- The slot that the program names by 0 places back. -/
theorem bk0 (M) : bk c M 0 = slotC M (at_ c 8) := slotM_congr M (off1 c 0) _ _
/-- The slot that the program names by 1 places back. -/
theorem bk1 (M) : bk c M 1 = slotC M (at_ c 7) := slotM_congr M (off1 c 1) _ _
/-- The slot that the program names by 2 places back. -/
theorem bk2 (M) : bk c M 2 = slotC M (at_ c 6) := slotM_congr M (off1 c 2) _ _
/-- The slot that the program names by 3 places back. -/
theorem bk3 (M) : bk c M 3 = slotC M (at_ c 5) := slotM_congr M (off1 c 3) _ _
/-- The slot that the program names by 4 places back. -/
theorem bk4 (M) : bk c M 4 = slotC M (at_ c 4) := slotM_congr M (off1 c 4) _ _
/-- The slot that the program names by 5 places back. -/
theorem bk5 (M) : bk c M 5 = slotC M (at_ c 3) := slotM_congr M (off1 c 5) _ _
/-- The slot that the program names by 6 places back. -/
theorem bk6 (M) : bk c M 6 = slotC M (at_ c 2) := slotM_congr M (off1 c 6) _ _
/-- The slot that the program names by 7 places back. -/
theorem bk7 (M) : bk c M 7 = slotC M (at_ c 1) := slotM_congr M (off1 c 7) _ _
/-- The slot that the program names by 0 places ahead. -/
theorem ah0 (M) : ah c M 0 = slotC M (at_ c 0) := slotM_congr M (off2 c 0) _ _
/-- The slot that the program names by 1 places ahead. -/
theorem ah1 (M) : ah c M 1 = slotC M (at_ c 1) := slotM_congr M (off2 c 1) _ _
/-- The slot that the program names by 2 places ahead. -/
theorem ah2 (M) : ah c M 2 = slotC M (at_ c 2) := slotM_congr M (off2 c 2) _ _
/-- The slot that the program names by 3 places ahead. -/
theorem ah3 (M) : ah c M 3 = slotC M (at_ c 3) := slotM_congr M (off2 c 3) _ _
/-- The rows that the program computes for itself are the device's. -/
theorem rowsC_eq : rowsC c = rowsO c := rowsM_congr (off3 c) _ _

/-! ## A device's own bookkeeping -/

/-- The two duties copy `k` meets: its sender's and its receiver's. -/
def tok (k : Fin 28) : sProp 𝕄 :=
  iprop(dutyTok ER ((c : Thread nD τ), .dma (ss k)) 0 0 ∗ dutyTok ER ((tgt k c : Thread nD τ), .dma (rs k)) 0 0)
/-- The credit a sent copy leaves, and the position of a semaphore's rounds. -/
def cr (i : Fin 52) : sProp 𝕄 := cred (tallyAt ((c : Thread nD τ), .dma i) () (amt i))
def pos (i : Fin 52) : sProp 𝕄 := atPos ER ((c : Thread nD τ), .dma i) 0 ∅ 0

/-- What a product takes and gives back: the operand rows, the stage, a place of the buffer, the local copies' counters. -/
def wk (l : Fin 52) (off : Fin 3 → ℕ) (h : ∀ a, off a + S1x1024x512.size a ≤ S2x1024x512.size a) : sProp 𝕄 :=
  iprop(hold c xM fullShare (xAt m ρ c) ∗ any (F := F) c stM ∗ any (F := F) c (bufP off h)
    ∗ semVal ((c : Thread nD τ), .dma 47) 0 ∗ semVal ((c : Thread nD τ), .dma 48) 0 ∗ semVal ((c : Thread nD τ), .dma l) 0)

/-! ## A block for another device -/

/-- From both halves of device `o`'s columns to the block of `c`'s rows by them, sent to its receiver. -/
theorem proc_wp {top bot : Memref sig .tc .hbm S4096x512 .f32} {h₁ : top.view.WordExact} {h₂ : bot.view.WordExact}
    {off : Fin 3 → ℕ} {h : ∀ a, off a + S1x1024x512.size a ≤ S2x1024x512.size a}
    {off' : Fin 3 → ℕ} {h' : ∀ a, off' a + S1x1024x512.size a ≤ S7x1024x512.size a}
    {offr : Fin 2 → ℕ} {hr : ∀ a, offr a + S1024x512.size a ≤ S8192x512.size a} {l : Fin 52} {d : Dev nD}
    {pay : Vec F S1024x8192 .f32 → Vec F S8192x512 .f32 → FVec F S1x1024x512 .f32} {kt : P F}
    {Q : PUnit → sProp 𝕄} {n : ℕ} {q₁ q₂ : PosShare TreeShare} (k : Fin 28) (o : Dev nD) (hl : ∀ j, j < n + 1 → 0 < plv (kOf j)) (hll : lvS l = 0)
    (hoff : offr = ![1024 * c.val, 0]) (hd : d = tgt k c)
    (hk : kOf n = k ∧ ¬ k.val < 7 ∧ ss k ∈ used ∧ rs k ∈ used ∧ 33 ≤ (ss k).val ∧ (ss k).val < 40 ∧ 40 ≤ (rs k).val)
    (hv : shapeCast S1024x512 (pay (xAt m ρ c) (wAt m o)) (by decide) = blkV m ρ c o)
    (hp : hold (tgt k c) (rowsO c) fullShare (blkV m ρ c o) = dmaPay m ρ (tgt k c) (rs k)) :
    iprop(env m ρ ∗ ow c (n + 1) ∗ wk m ρ c l off h ∗ (hold c top q₁ (topW m o) ∗ hold c bot q₂ (botW m o)) ∗ any (F := F) c (boxP off' h')
        ∗ any (F := F) (tgt k c) (rowsO c) ∗ tok (F := F) c k)
      ⊢ iprop(((ow c n ∗ wk m ρ c l off h ∗ cr (F := F) c (ss k)) -∗ WP c kt Q)
        -∗ WP c (proc top bot h₁ h₂ off h off' h' offr hr l (ss k) (rs k) d pay kt) Q) := by
  subst hoff
  obtain ⟨hk1, hk2, hk3, hk4, hk5, hk6, hk7⟩ := hk
  unfold wk tok cr proc
  iintro ⟨#He, HO, ⟨Hx, Hst, Hbuf, Hv1, Hv2, Hv3⟩, ⟨Ht, Hb⟩, Hbox, Hd, Ht1, Ht2⟩ Hk
  iapply (fetch_wp m ρ c (n := n + 1) o hl) $$ [HO Ht Hb Hst Hv1 Hv2]
  · isplitr; · iexact He
    isplitl [HO]; · iexact HO
    isplitl [Ht]; · iexact Ht
    isplitl [Hb]; · iexact Hb
    isplitl [Hst]; · iexact Hst
    isplitl [Hv1]; · iexact Hv1
    iexact Hv2
  iintro ⟨HO, Hst, Hv1, Hv2⟩
  iapply (prod_wp c (h := h) (x := xAt m ρ c) (w := wAt m o) hv) $$ [Hx Hst Hbuf]
  · isplitl [Hx]; · iexact Hx
    isplitl [Hst]; · iexact Hst
    iexact Hbuf
  iintro ⟨Hx, Hst, Hbuf⟩
  unfold hold any
  icases Hbuf with ⟨%fs, Hbuf, %hfs⟩
  icases Hbox with ⟨%fd, Hbox⟩
  iapply (copy_wp c (src := bufP off h) (dst := boxP off' h') (s := l) rfl NB_pos (Finset.Subset.refl _) (fs := fs) (fd := fd)) $$ [Hbuf Hbox Hv3]
  · isplitl [Hbuf]; · iexact Hbuf
    isplitl [Hbox]; · iexact Hbox
    iexact Hv3
  iintro Hf
  iapply (copied_wp m ρ c (src := bufP off h) (dst := boxP off' h') (s := l) (n := n + 1) rfl (by rw [hll]; exact hl)) $$ [Hf HO]
  · isplitr; · iexact He
    isplitl [Hf]; · iexact Hf
    iexact HO
  iintro ⟨⟨Hbox, Hbuf⟩, Hv3, HO⟩
  have ha : amt (ss k) = amt (rs k) := by unfold amt; rw [if_neg (by omega), if_neg (by omega)]
  have hs : (iprop(emp) : sProp 𝕄) = dmaPay m ρ c (ss k) := by
    unfold dmaPay
    rw [if_neg (by omega), if_neg (by omega), if_neg (by omega), if_neg (by omega), if_neg (by omega)]
  iapply (send_wp m ρ c (src := boxP off' h') (dst := rowsO c) (s := ss k) (r := rs k) (n := n) (q := fullShare) (v := blkV m ρ c o) k hd
    ⟨hk1, hk2, rfl, rfl, hk3, hk4, ha, by rintro h0; rw [h0] at hk7; exact absurd hk7 (by decide)⟩
    (by unfold amt; rw [if_neg (by omega)]; rfl) hs hp) $$ [Hbox Hd HO Ht1 Ht2]
  · isplitr; · iexact He
    isplitl [Hbox]
    · unfold hold
      iexists _
      isplitl [Hbox]; · iexact Hbox
      ipureintro
      rw [View.read_write_univ]; exact hfs
    isplitl [Hd]; · rw [hd]; unfold any; iexact Hd
    isplitl [HO]; · iexact HO
    isplitl [Ht1]; · iexact Ht1
    iexact Ht2
  iintro ⟨Hc, HO⟩
  iapply Hk
  isplitl [HO]; · iexact HO
  isplitr [Hc]
  · isplitl [Hx]; · iexact Hx
    isplitl [Hst]; · icases Hst with ⟨%f, Hst, -⟩; iexists f; iexact Hst
    isplitl [Hbuf]; · iexists fs; iexact Hbuf
    isplitl [Hv1]; · iexact Hv1
    isplitl [Hv2]; · iexact Hv2
    iexact Hv3
  iexact Hc

/-! ## The payloads at their receivers -/

/-- A copy goes as far along the ring as its distance says. -/
theorem tgt_dist (k : Fin 28) (hk : ¬ k.val < 7) : tgt k c = at_ c (dist k) := if_neg hk

end Cert.KernelIdeal.Prot
-- ==== Proof.KernelIdeal.Line.lean ====
/-
The line's segments, one rule each: what a segment takes, and what it leaves for the rest of the line.
-/
module

public import proofs.«01_k».proof.Proof.KernelIdeal.Block
public import Idealize.ShloMosaic.Lib.Pipeline.BigSepL
public import Idealize.ShloMosaic.Lib.Pointwise.Reshape

@[expose] public section

set_option maxRecDepth 16384

noncomputable section

namespace Cert.KernelIdeal.Prot

open Cert.KernelIdeal Cert.KernelIdeal.Gen Cert.KernelIdeal.Ring Cert.KernelIdeal.Flat

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

/-! ## What arrives and what is sent, by origin -/

/-- Two distances with the same sum around the ring lead to the same device. -/
theorem back_eq (j k r : ℕ) (h : (j + k) % 8 = r % 8) : at_ (at_ c j) k = at_ c r := by rw [at_at, ← at_mod, h, at_mod]

/-- A whole travelling half of device `o` in a slot of `c`: to send on and to fetch. -/
abbrev qs : PosShare TreeShare := fullShare.left
abbrev qf : PosShare TreeShare := fullShare.right
/-- The shares of the own columns: one kept, two sent, one fetched. -/
abbrev w1 : PosShare TreeShare := fullShare.right.left
abbrev w2 : PosShare TreeShare := fullShare.right.right.left
abbrev w3 : PosShare TreeShare := fullShare.right.right.right

/-- What arrives on semaphore 5. -/
theorem get5 : dmaPay m ρ c 5 = hold c (slotC G0 (at_ c 7)) fullShare (topW m (at_ c 7)) := rfl
/-- What arrives on semaphore 6. -/
theorem get6 : dmaPay m ρ c 6 = hold c (slotC G0 (at_ c 6)) fullShare (topW m (at_ c 6)) := rfl
/-- What arrives on semaphore 7. -/
theorem get7 : dmaPay m ρ c 7 = hold c (slotC G0 (at_ c 5)) fullShare (topW m (at_ c 5)) := rfl
/-- What arrives on semaphore 8. -/
theorem get8 : dmaPay m ρ c 8 = hold c (slotC G0 (at_ c 4)) fullShare (topW m (at_ c 4)) := rfl
/-- What arrives on semaphore 13. -/
theorem get13 : dmaPay m ρ c 13 = hold c (slotC G1 (at_ c 7)) fullShare (botW m (at_ c 7)) := rfl
/-- What arrives on semaphore 14. -/
theorem get14 : dmaPay m ρ c 14 = hold c (slotC G1 (at_ c 6)) fullShare (botW m (at_ c 6)) := rfl
/-- What arrives on semaphore 15. -/
theorem get15 : dmaPay m ρ c 15 = hold c (slotC G1 (at_ c 5)) fullShare (botW m (at_ c 5)) := rfl
/-- What arrives on semaphore 21. -/
theorem get21 : dmaPay m ρ c 21 = hold c (slotC G2 (at_ c 1)) fullShare (topW m (at_ c 1)) := rfl
/-- What arrives on semaphore 22. -/
theorem get22 : dmaPay m ρ c 22 = hold c (slotC G2 (at_ c 2)) fullShare (topW m (at_ c 2)) := rfl
/-- What arrives on semaphore 23. -/
theorem get23 : dmaPay m ρ c 23 = hold c (slotC G2 (at_ c 3)) fullShare (topW m (at_ c 3)) := rfl
/-- What arrives on semaphore 29. -/
theorem get29 : dmaPay m ρ c 29 = hold c (slotC G3 (at_ c 1)) fullShare (botW m (at_ c 1)) := rfl
/-- What arrives on semaphore 30. -/
theorem get30 : dmaPay m ρ c 30 = hold c (slotC G3 (at_ c 2)) fullShare (botW m (at_ c 2)) := rfl
/-- What arrives on semaphore 31. -/
theorem get31 : dmaPay m ρ c 31 = hold c (slotC G3 (at_ c 3)) fullShare (botW m (at_ c 3)) := rfl
/-- What arrives on semaphore 32. -/
theorem get32 : dmaPay m ρ c 32 = hold c (slotC G3 (at_ c 4)) fullShare (botW m (at_ c 4)) := rfl
/-- The half that payment 7 writes is what its receiver waits for. -/
theorem put7 : hold (tgt 7 c) (slotC G0 (at_ c 8)) fullShare (topW m (at_ c 8)) = dmaPay m ρ (tgt 7 c) 5 := by
  show _ = hold (at_ c 1) (slotC G0 (at_ (at_ c 1) 7)) fullShare (topW m (at_ (at_ c 1) 7)); rw [back_eq c 1 7 8 rfl]; rfl
/-- The half that payment 8 writes is what its receiver waits for. -/
theorem put8 : hold (tgt 8 c) (slotC G1 (at_ c 8)) fullShare (botW m (at_ c 8)) = dmaPay m ρ (tgt 8 c) 13 := by
  show _ = hold (at_ c 1) (slotC G1 (at_ (at_ c 1) 7)) fullShare (botW m (at_ (at_ c 1) 7)); rw [back_eq c 1 7 8 rfl]; rfl
/-- The half that payment 9 writes is what its receiver waits for. -/
theorem put9 : hold (tgt 9 c) (slotC G2 (at_ c 0)) fullShare (topW m (at_ c 0)) = dmaPay m ρ (tgt 9 c) 21 := by
  show _ = hold (at_ c 7) (slotC G2 (at_ (at_ c 7) 1)) fullShare (topW m (at_ (at_ c 7) 1)); rw [back_eq c 7 1 0 rfl]; rfl
/-- The half that payment 10 writes is what its receiver waits for. -/
theorem put10 : hold (tgt 10 c) (slotC G3 (at_ c 0)) fullShare (botW m (at_ c 0)) = dmaPay m ρ (tgt 10 c) 29 := by
  show _ = hold (at_ c 7) (slotC G3 (at_ (at_ c 7) 1)) fullShare (botW m (at_ (at_ c 7) 1)); rw [back_eq c 7 1 0 rfl]; rfl
/-- The half that payment 11 writes is what its receiver waits for. -/
theorem put11 : hold (tgt 11 c) (slotC G0 (at_ c 7)) fullShare (topW m (at_ c 7)) = dmaPay m ρ (tgt 11 c) 6 := by
  show _ = hold (at_ c 1) (slotC G0 (at_ (at_ c 1) 6)) fullShare (topW m (at_ (at_ c 1) 6)); rw [back_eq c 1 6 7 rfl]; rfl
/-- The half that payment 12 writes is what its receiver waits for. -/
theorem put12 : hold (tgt 12 c) (slotC G1 (at_ c 7)) fullShare (botW m (at_ c 7)) = dmaPay m ρ (tgt 12 c) 14 := by
  show _ = hold (at_ c 1) (slotC G1 (at_ (at_ c 1) 6)) fullShare (botW m (at_ (at_ c 1) 6)); rw [back_eq c 1 6 7 rfl]; rfl
/-- The half that payment 13 writes is what its receiver waits for. -/
theorem put13 : hold (tgt 13 c) (slotC G2 (at_ c 1)) fullShare (topW m (at_ c 1)) = dmaPay m ρ (tgt 13 c) 22 := by
  show _ = hold (at_ c 7) (slotC G2 (at_ (at_ c 7) 2)) fullShare (topW m (at_ (at_ c 7) 2)); rw [back_eq c 7 2 1 rfl]; rfl
/-- The half that payment 14 writes is what its receiver waits for. -/
theorem put14 : hold (tgt 14 c) (slotC G3 (at_ c 1)) fullShare (botW m (at_ c 1)) = dmaPay m ρ (tgt 14 c) 30 := by
  show _ = hold (at_ c 7) (slotC G3 (at_ (at_ c 7) 2)) fullShare (botW m (at_ (at_ c 7) 2)); rw [back_eq c 7 2 1 rfl]; rfl
/-- The block that payment 15 writes is what its receiver waits for. -/
theorem put15 : hold (tgt 15 c) (rowsO c) fullShare (blkV m ρ c (at_ c 7)) = dmaPay m ρ (tgt 15 c) 40 := by
  show _ = hold (at_ c 7) (rowsO (at_ (at_ c 7) 1)) fullShare (blkV m ρ (at_ (at_ c 7) 1) (at_ c 7)); rw [back_eq c 7 1 8 rfl, at_eight]; rfl
/-- The block that payment 16 writes is what its receiver waits for. -/
theorem put16 : hold (tgt 16 c) (rowsO c) fullShare (blkV m ρ c (at_ c 1)) = dmaPay m ρ (tgt 16 c) 46 := by
  show _ = hold (at_ c 1) (rowsO (at_ (at_ c 1) 7)) fullShare (blkV m ρ (at_ (at_ c 1) 7) (at_ c 1)); rw [back_eq c 1 7 8 rfl, at_eight]; rfl
/-- The half that payment 17 writes is what its receiver waits for. -/
theorem put17 : hold (tgt 17 c) (slotC G0 (at_ c 6)) fullShare (topW m (at_ c 6)) = dmaPay m ρ (tgt 17 c) 7 := by
  show _ = hold (at_ c 1) (slotC G0 (at_ (at_ c 1) 5)) fullShare (topW m (at_ (at_ c 1) 5)); rw [back_eq c 1 5 6 rfl]; rfl
/-- The half that payment 18 writes is what its receiver waits for. -/
theorem put18 : hold (tgt 18 c) (slotC G1 (at_ c 6)) fullShare (botW m (at_ c 6)) = dmaPay m ρ (tgt 18 c) 15 := by
  show _ = hold (at_ c 1) (slotC G1 (at_ (at_ c 1) 5)) fullShare (botW m (at_ (at_ c 1) 5)); rw [back_eq c 1 5 6 rfl]; rfl
/-- The half that payment 19 writes is what its receiver waits for. -/
theorem put19 : hold (tgt 19 c) (slotC G2 (at_ c 2)) fullShare (topW m (at_ c 2)) = dmaPay m ρ (tgt 19 c) 23 := by
  show _ = hold (at_ c 7) (slotC G2 (at_ (at_ c 7) 3)) fullShare (topW m (at_ (at_ c 7) 3)); rw [back_eq c 7 3 2 rfl]; rfl
/-- The half that payment 20 writes is what its receiver waits for. -/
theorem put20 : hold (tgt 20 c) (slotC G3 (at_ c 2)) fullShare (botW m (at_ c 2)) = dmaPay m ρ (tgt 20 c) 31 := by
  show _ = hold (at_ c 7) (slotC G3 (at_ (at_ c 7) 3)) fullShare (botW m (at_ (at_ c 7) 3)); rw [back_eq c 7 3 2 rfl]; rfl
/-- The block that payment 21 writes is what its receiver waits for. -/
theorem put21 : hold (tgt 21 c) (rowsO c) fullShare (blkV m ρ c (at_ c 6)) = dmaPay m ρ (tgt 21 c) 41 := by
  show _ = hold (at_ c 6) (rowsO (at_ (at_ c 6) 2)) fullShare (blkV m ρ (at_ (at_ c 6) 2) (at_ c 6)); rw [back_eq c 6 2 8 rfl, at_eight]; rfl
/-- The block that payment 22 writes is what its receiver waits for. -/
theorem put22 : hold (tgt 22 c) (rowsO c) fullShare (blkV m ρ c (at_ c 2)) = dmaPay m ρ (tgt 22 c) 45 := by
  show _ = hold (at_ c 2) (rowsO (at_ (at_ c 2) 6)) fullShare (blkV m ρ (at_ (at_ c 2) 6) (at_ c 2)); rw [back_eq c 2 6 8 rfl, at_eight]; rfl
/-- The half that payment 23 writes is what its receiver waits for. -/
theorem put23 : hold (tgt 23 c) (slotC G0 (at_ c 5)) fullShare (topW m (at_ c 5)) = dmaPay m ρ (tgt 23 c) 8 := by
  show _ = hold (at_ c 1) (slotC G0 (at_ (at_ c 1) 4)) fullShare (topW m (at_ (at_ c 1) 4)); rw [back_eq c 1 4 5 rfl]; rfl
/-- The half that payment 24 writes is what its receiver waits for. -/
theorem put24 : hold (tgt 24 c) (slotC G3 (at_ c 3)) fullShare (botW m (at_ c 3)) = dmaPay m ρ (tgt 24 c) 32 := by
  show _ = hold (at_ c 7) (slotC G3 (at_ (at_ c 7) 4)) fullShare (botW m (at_ (at_ c 7) 4)); rw [back_eq c 7 4 3 rfl]; rfl
/-- The block that payment 25 writes is what its receiver waits for. -/
theorem put25 : hold (tgt 25 c) (rowsO c) fullShare (blkV m ρ c (at_ c 5)) = dmaPay m ρ (tgt 25 c) 42 := by
  show _ = hold (at_ c 5) (rowsO (at_ (at_ c 5) 3)) fullShare (blkV m ρ (at_ (at_ c 5) 3) (at_ c 5)); rw [back_eq c 5 3 8 rfl, at_eight]; rfl
/-- The block that payment 26 writes is what its receiver waits for. -/
theorem put26 : hold (tgt 26 c) (rowsO c) fullShare (blkV m ρ c (at_ c 3)) = dmaPay m ρ (tgt 26 c) 44 := by
  show _ = hold (at_ c 3) (rowsO (at_ (at_ c 3) 5)) fullShare (blkV m ρ (at_ (at_ c 3) 5) (at_ c 3)); rw [back_eq c 3 5 8 rfl, at_eight]; rfl
/-- The block that payment 27 writes is what its receiver waits for. -/
theorem put27 : hold (tgt 27 c) (rowsO c) fullShare (blkV m ρ c (at_ c 4)) = dmaPay m ρ (tgt 27 c) 43 := by
  show _ = hold (at_ c 4) (rowsO (at_ (at_ c 4) 4)) fullShare (blkV m ρ (at_ (at_ c 4) 4) (at_ c 4)); rw [back_eq c 4 4 8 rfl, at_eight]; rfl

/-! ## The steps, with the bookkeeping's names -/

/-- A copy of half of the columns counts the half's amount. -/
theorem credH {sp : Space} (M : Memref sig .tc sp S4096x512 .f32) : M.view.dmaCredit = NH := rfl
/-- A copy of a block counts the block's amount. -/
theorem credB {sp : Space} (M : Memref sig .tc sp S1024x512 .f32) : M.view.dmaCredit = NB := rfl
/-- The hops' semaphores expect the half's amount. -/
theorem amt_half {i : Fin 52} (h : i.val < 33) : amt i = NH := if_pos h
/-- The result copies' semaphores expect the block's amount. -/
theorem amt_blk {i : Fin 52} (h : ¬ i.val < 33) : amt i = NB := if_neg h

/-- A hop: it takes a share of the source, the target's slot, its token and one owed payment, and gives the sender's credit. -/
theorem send_s {src dst : Memref sig .tc .hbm S4096x512 .f32} {d : Dev nD} {s r : Fin 52} {h₁ : src.view.WordExact} {h₂ : dst.view.WordExact}
    {kt : P F} {Q : PUnit → sProp 𝕄} {q : PosShare TreeShare} {v : S4096x512.Idx → Elt F .f32} (n : ℕ) (k : Fin 28) (hd : d = tgt k c)
    (hk : kOf n = k ∧ ¬ k.val < 7 ∧ ss k = s ∧ rs k = r ∧ s ∈ used ∧ r ∈ used ∧ s.val < 33 ∧ r.val < 33 ∧ r ≠ 0 ∧
      ¬ (5 ≤ s.val ∧ s.val < 9) ∧ ¬ (13 ≤ s.val ∧ s.val < 16) ∧ ¬ (21 ≤ s.val ∧ s.val < 24) ∧ ¬ (29 ≤ s.val ∧ s.val < 33))
    (hp : hold (tgt k c) dst fullShare v = dmaPay m ρ (tgt k c) r) :
    iprop(env m ρ ∗ hold c src q v ∗ any (F := F) (tgt k c) dst ∗ ow c (n + 1) ∗ tok (F := F) c k)
      ⊢ iprop(((cr (F := F) c s ∗ ow c n) -∗ WP c kt Q) -∗ WP c (Flat.send src dst d s r h₁ h₂ kt) Q) := by
  subst hd
  obtain ⟨hkn, hk7, rfl, rfl, hus, hur, hs33, hr33, hr0, h1, h2, h3, h4⟩ := hk
  exact send_wp m ρ c k rfl ⟨hkn, hk7, rfl, rfl, hus, hur, (amt_half hs33).trans (amt_half hr33).symm, hr0⟩ ((credH dst).trans (amt_half hr33).symm)
    (by unfold dmaPay; rw [if_neg h1, if_neg h2, if_neg h3, if_neg h4, if_neg (by omega)]) hp

/-- The wait for a hop gives what the hop carried, and the semaphore's counter at zero. -/
theorem recv_h {sp sp' : Space} {src : Memref sig .tc sp S4096x512 .f32} {dst : Memref sig .tc sp' S4096x512 .f32} {i : Fin 52}
    {h₁ : src.view.WordExact} {h₂ : dst.view.WordExact} {kt : P F} {Q : PUnit → sProp 𝕄} (n : ℕ) (S : Finset (Fin 52))
    (hi : (i ∈ used ∧ i ∉ S ∧ ∀ j, j < n → lvS i < plv (kOf j)) ∧ i.val < 33) :
    iprop(env m ρ ∗ ow c n ∗ cr (F := F) c i ∗ pos (F := F) c i ∗ zs (F := F) c S)
      ⊢ iprop(((ow c n ∗ dmaPay m ρ c i ∗ zs (F := F) c (insert i S)) -∗ WP c kt Q) -∗ WP c (wait src dst i h₁ h₂ kt) Q) :=
  recv_wp m ρ c hi.1 ((credH dst).trans (amt_half hi.2).symm)

/-- The wait for a block of the result gives the block, and the semaphore's counter at zero. -/
theorem recv_b {sp sp' : Space} {src : Memref sig .tc sp S1024x512 .f32} {dst : Memref sig .tc sp' S1024x512 .f32} {i : Fin 52}
    {h₁ : src.view.WordExact} {h₂ : dst.view.WordExact} {kt : P F} {Q : PUnit → sProp 𝕄} (n : ℕ) (S : Finset (Fin 52))
    (hi : (i ∈ used ∧ i ∉ S ∧ ∀ j, j < n → lvS i < plv (kOf j)) ∧ ¬ i.val < 33) :
    iprop(env m ρ ∗ ow c n ∗ cr (F := F) c i ∗ pos (F := F) c i ∗ zs (F := F) c S)
      ⊢ iprop(((ow c n ∗ dmaPay m ρ c i ∗ zs (F := F) c (insert i S)) -∗ WP c kt Q) -∗ WP c (wait src dst i h₁ h₂ kt) Q) :=
  recv_wp m ρ c hi.1 ((credB dst).trans (amt_blk hi.2).symm)

/-- A slot's two shares, one to send on and one to fetch. -/
theorem share {sp : Space} {sh : Shape} {M : Memref sig .tc sp sh .f32} (v : sh.Idx → Elt F .f32) :
    hold c M fullShare v ⊢ iprop(hold c M qs v ∗ hold c M qf v) := hold_split c (PosShare.mem_left_op_right _) v

omit [FloatOps F] in
/-- A list's assertions are the first's and the rest's. -/
theorem bl_cons {I : Type} (i : I) (l : List I) (Φ : I → sProp 𝕄) : bigSepL (i :: l) Φ = iprop(Φ i ∗ bigSepL l Φ) := by rw [bigSepL_cons]; rfl
omit [FloatOps F] in
/-- An empty list asserts nothing. -/
theorem bl_nil {I : Type} (Φ : I → sProp 𝕄) : bigSepL ([] : List I) Φ = iprop(emp) := rfl

/-- The counters of no semaphores. -/
theorem zs_nil : (iprop(emp) : sProp 𝕄) = zs (F := F) c ∅ := by unfold zs; rw [BI.bigSep_empty]; rfl

/-! ## The segments -/

/-- The entry: seven signals paid, the seven awaited. -/
theorem entry_wp {kt : P F} {Q : PUnit → sProp 𝕄} (hc : ∀ k : Fin 28, k.val < 7 → c ≠ tgt k c) :
    iprop(env m ρ ∗ ow c 28 ∗ bigSepL [0, 1, 2, 3, 4, 5, 6] (fun k : Fin 28 => dutyTok ER ((tgt k c : Thread nD τ), .reg barS) 0 c)
        ∗ bigSepL [0, 1, 2, 3, 4, 5, 6] (fun k : Fin 28 => barPay (F := F) (tgt k c) c)
        ∗ cred (tallyAt ((c : Thread nD τ), .reg barS) () 7) ∗ atPos ER ((c : Thread nD τ), .reg barS) 0 ∅ 0)
      ⊢ iprop(((ow c 21 ∗ bigSep (Finset.univ.erase c) (fun d => barPay (F := F) c d) ∗ semVal ((c : Thread nD τ), .reg barS) 0) -∗ WP c kt Q)
        -∗ WP c (entry c kt) Q) := by
  simp only [bl_cons, bl_nil]
  unfold entry
  iintro ⟨#He, HO, ⟨T0, T1, T2, T3, T4, T5, T6, -⟩, ⟨B0, B1, B2, B3, B4, B5, B6, -⟩, Hc, Hat⟩ Hk
  iapply (signal_wp m ρ c (n := 27) 0 (dev1 c _) (by decide) (hc 0 (by decide))) $$ [HO T0 B0]
  · isplitr; · iexact He
    isplitl [HO]; · iexact HO
    isplitl [T0]; · iexact T0
    iexact B0
  iintro HO
  iapply (signal_wp m ρ c (n := 26) 1 (dev2 c _) (by decide) (hc 1 (by decide))) $$ [HO T1 B1]
  · isplitr; · iexact He
    isplitl [HO]; · iexact HO
    isplitl [T1]; · iexact T1
    iexact B1
  iintro HO
  iapply (signal_wp m ρ c (n := 25) 2 (dev3 c _) (by decide) (hc 2 (by decide))) $$ [HO T2 B2]
  · isplitr; · iexact He
    isplitl [HO]; · iexact HO
    isplitl [T2]; · iexact T2
    iexact B2
  iintro HO
  iapply (signal_wp m ρ c (n := 24) 3 (dev4 c _) (by decide) (hc 3 (by decide))) $$ [HO T3 B3]
  · isplitr; · iexact He
    isplitl [HO]; · iexact HO
    isplitl [T3]; · iexact T3
    iexact B3
  iintro HO
  iapply (signal_wp m ρ c (n := 23) 4 (dev5 c _) (by decide) (hc 4 (by decide))) $$ [HO T4 B4]
  · isplitr; · iexact He
    isplitl [HO]; · iexact HO
    isplitl [T4]; · iexact T4
    iexact B4
  iintro HO
  iapply (signal_wp m ρ c (n := 22) 5 (dev6 c _) (by decide) (hc 5 (by decide))) $$ [HO T5 B5]
  · isplitr; · iexact He
    isplitl [HO]; · iexact HO
    isplitl [T5]; · iexact T5
    iexact B5
  iintro HO
  iapply (signal_wp m ρ c (n := 21) 6 (dev7 c _) (by decide) (hc 6 (by decide))) $$ [HO T6 B6]
  · isplitr; · iexact He
    isplitl [HO]; · iexact HO
    isplitl [T6]; · iexact T6
    iexact B6
  iintro HO
  iapply (barWait_wp m ρ c (n := 21) (by decide)) $$ [HO Hc Hat]
  · isplitr; · iexact He
    isplitl [HO]; · iexact HO
    isplitl [Hc]; · iexact Hc
    iexact Hat
  iexact Hk

/-- The first hop. -/
theorem hop0_wp {kt : P F} {Q : PUnit → sProp 𝕄} :
    iprop(env m ρ ∗ ow c 21 ∗ (hold c (topH wM) w1 (topW m (at_ c 8)) ∗ hold c (botH wM) w1 (botW m (at_ c 8)) ∗ hold c (topH wM) w2 (topW m (at_ c 0)) ∗ hold c (botH wM) w2 (botW m (at_ c 0)))
        ∗ (any (F := F) (right c) (slotC G0 (at_ c 8)) ∗ any (F := F) (right c) (slotC G1 (at_ c 8))
          ∗ any (F := F) (left c) (slotC G2 (at_ c 0)) ∗ any (F := F) (left c) (slotC G3 (at_ c 0)))
        ∗ bigSepL [7, 8, 9, 10] (tok (F := F) c))
      ⊢ iprop(((ow c 17 ∗ bigSepL [1, 9, 17, 25] (cr (F := F) c)) -∗ WP c kt Q) -∗ WP c (hop0 c kt) Q) := by
  simp only [bl_cons, bl_nil]
  unfold hop0
  simp only [bk0, bk1, bk2, bk3, bk4, ah0, ah1, ah2, ah3, bk5, bk6, bk7, rowsC_eq]
  iintro ⟨#He, HO, ⟨S7, S8, S9, S10⟩, ⟨D7, D8, D9, D10⟩, T7, T8, T9, T10, -⟩ Hk
  iapply (send_s m ρ c 20 7 (dev8 c _) (by decide) (put7 m ρ c)) $$ [S7 D7 HO T7]
  · isplitr; · iexact He
    isplitl [S7]; · iexact S7
    isplitl [D7]; · iexact D7
    isplitl [HO]; · iexact HO
    iexact T7
  iintro ⟨C1, HO⟩
  iapply (send_s m ρ c 19 8 (dev9 c _) (by decide) (put8 m ρ c)) $$ [S8 D8 HO T8]
  · isplitr; · iexact He
    isplitl [S8]; · iexact S8
    isplitl [D8]; · iexact D8
    isplitl [HO]; · iexact HO
    iexact T8
  iintro ⟨C9, HO⟩
  iapply (send_s m ρ c 18 9 (dev10 c _) (by decide) (put9 m ρ c)) $$ [S9 D9 HO T9]
  · isplitr; · iexact He
    isplitl [S9]; · iexact S9
    isplitl [D9]; · iexact D9
    isplitl [HO]; · iexact HO
    iexact T9
  iintro ⟨C17, HO⟩
  iapply (send_s m ρ c 17 10 (dev11 c _) (by decide) (put10 m ρ c)) $$ [S10 D10 HO T10]
  · isplitr; · iexact He
    isplitl [S10]; · iexact S10
    isplitl [D10]; · iexact D10
    isplitl [HO]; · iexact HO
    iexact T10
  iintro ⟨C25, HO⟩
  iapply Hk
  isplitl [HO]; · iexact HO
  isplitl [C1]; · iexact C1
  isplitl [C9]; · iexact C9
  isplitl [C17]; · iexact C17
  isplitl [C25]; · iexact C25
  iempintro

/-- The own block: from the own columns to the block in its buffer, its copy into the own rows under way. -/
theorem own0_wp {kt : P F} {Q : PUnit → sProp 𝕄} :
    iprop(env m ρ ∗ ow c 17 ∗ (hold c (topH wM) w3 (topW m c) ∗ hold c (botH wM) w3 (botW m c)) ∗ hold c xM fullShare (xAt m ρ c) ∗ any (F := F) c stM
        ∗ any (F := F) c ownM ∗ any (F := F) c (rowsO c)
        ∗ semVal ((c : Thread nD τ), .dma 47) 0 ∗ semVal ((c : Thread nD τ), .dma 48) 0 ∗ semVal ((c : Thread nD τ), .dma 49) 0)
      ⊢ iprop(((ow c 17 ∗ hold c xM fullShare (xAt m ρ c) ∗ any (F := F) c stM
          ∗ Transfers.Flight EC (c : Thread nD τ) (.dma 49) () NB iprop(hold c (rowsO c) fullShare (blkV m ρ c c) ∗ any (F := F) c ownM)
          ∗ semVal ((c : Thread nD τ), .dma 47) 0 ∗ semVal ((c : Thread nD τ), .dma 48) 0) -∗ WP c kt Q) -∗ WP c (own0 c kt) Q) := by
  unfold own0
  simp only [bk0, bk1, bk2, bk3, bk4, ah0, ah1, ah2, ah3, bk5, bk6, bk7, rowsC_eq]
  iintro ⟨#He, HO, ⟨Ht, Hb⟩, Hx, Hst, Hown, Hrow, Hv1, Hv2, Hv3⟩ Hk
  iapply (fetch_wp m ρ c (n := 17) c (by decide)) $$ [HO Ht Hb Hst Hv1 Hv2]
  · isplitr; · iexact He
    isplitl [HO]; · iexact HO
    isplitl [Ht]; · iexact Ht
    isplitl [Hb]; · iexact Hb
    isplitl [Hst]; · iexact Hst
    isplitl [Hv1]; · iexact Hv1
    iexact Hv2
  iintro ⟨HO, Hst, Hv1, Hv2⟩
  iapply (own_wp c (x := xAt m ρ c) (w := wAt m c)) $$ [Hx Hst Hown]
  · isplitl [Hx]; · iexact Hx
    isplitl [Hst]; · iexact Hst
    iexact Hown
  iintro ⟨Hx, Hst, Hown⟩
  unfold hold any
  icases Hown with ⟨%fs, Hown, %hfs⟩
  icases Hrow with ⟨%fd, Hrow⟩
  iapply (copy_wp c (src := ownM) (dst := rowsO c) (s := 49) rfl NB_pos (Finset.Subset.refl _) (fs := fs) (fd := fd)) $$ [Hown Hrow Hv3]
  · isplitl [Hown]; · iexact Hown
    isplitl [Hrow]; · iexact Hrow
    iexact Hv3
  iintro Hf
  iapply Hk
  isplitl [HO]; · iexact HO
  isplitl [Hx]; · iexact Hx
  isplitl [Hst]; · icases Hst with ⟨%f, Hst, -⟩; iexists f; iexact Hst
  isplitl [Hf]
  · iapply (Transfers.Flight_mono EC (c : Thread nD τ) ?_) $$ Hf
    iintro ⟨Hr, Hs⟩
    isplitl [Hr]
    · iexists _
      isplitl [Hr]; · iexact Hr
      ipureintro; rw [View.read_write_univ]; exact hfs
    · iexists fs; iexact Hs
  isplitl [Hv1]; · iexact Hv1
  iexact Hv2

/-- The first arrivals, sent on. -/
theorem arr0_wp {kt : P F} {Q : PUnit → sProp 𝕄} :
    iprop(env m ρ ∗ ow c 17 ∗ bigSepL [5, 13, 21, 29] (cr (F := F) c) ∗ bigSepL [5, 13, 21, 29] (pos (F := F) c) ∗ (any (F := F) (right c) (slotC G0 (at_ c 7)) ∗ any (F := F) (right c) (slotC G1 (at_ c 7)) ∗ any (F := F) (left c) (slotC G2 (at_ c 1)) ∗ any (F := F) (left c) (slotC G3 (at_ c 1))) ∗ bigSepL [11, 12, 13, 14] (tok (F := F) c))
      ⊢ iprop(((ow c 13 ∗ bigSepL [2, 10, 18, 26] (cr (F := F) c) ∗ (hold c (slotC G0 (at_ c 7)) qf (topW m (at_ c 7)) ∗ hold c (slotC G1 (at_ c 7)) qf (botW m (at_ c 7)) ∗ hold c (slotC G2 (at_ c 1)) qf (topW m (at_ c 1)) ∗ hold c (slotC G3 (at_ c 1)) qf (botW m (at_ c 1))) ∗ zs (F := F) c (insert 29 (insert 21 (insert 13 (insert 5 ∅))))) -∗ WP c kt Q) -∗ WP c (arr0 c kt) Q) := by
  simp only [bl_cons, bl_nil]
  unfold arr0
  simp only [bk0, bk1, bk2, bk3, bk4, ah0, ah1, ah2, ah3, bk5, bk6, bk7, rowsC_eq]
  iintro ⟨#He, HO, ⟨C5, C13, C21, C29, -⟩, ⟨P5, P13, P21, P29, -⟩, ⟨D11, D12, D13, D14⟩, T11, T12, T13, T14, -⟩ Hk
  ihave Hz := (Entails.of_eq (zs_nil (F := F) c)) $$ []
  · iempintro
  iapply (recv_h m ρ c (i := 5) 17 ∅ (by decide)) $$ [HO C5 P5 Hz]
  · isplitr; · iexact He
    isplitl [HO]; · iexact HO
    isplitl [C5]; · iexact C5
    isplitl [P5]; · iexact P5
    iexact Hz
  iintro ⟨HO, R5, Hz⟩
  iapply (recv_h m ρ c (i := 13) 17 (insert 5 ∅) (by decide)) $$ [HO C13 P13 Hz]
  · isplitr; · iexact He
    isplitl [HO]; · iexact HO
    isplitl [C13]; · iexact C13
    isplitl [P13]; · iexact P13
    iexact Hz
  iintro ⟨HO, R13, Hz⟩
  iapply (recv_h m ρ c (i := 21) 17 (insert 13 (insert 5 ∅)) (by decide)) $$ [HO C21 P21 Hz]
  · isplitr; · iexact He
    isplitl [HO]; · iexact HO
    isplitl [C21]; · iexact C21
    isplitl [P21]; · iexact P21
    iexact Hz
  iintro ⟨HO, R21, Hz⟩
  iapply (recv_h m ρ c (i := 29) 17 (insert 21 (insert 13 (insert 5 ∅))) (by decide)) $$ [HO C29 P29 Hz]
  · isplitr; · iexact He
    isplitl [HO]; · iexact HO
    isplitl [C29]; · iexact C29
    isplitl [P29]; · iexact P29
    iexact Hz
  iintro ⟨HO, R29, Hz⟩
  ihave R5 := (Entails.of_eq (get5 m ρ c)) $$ R5
  ihave R13 := (Entails.of_eq (get13 m ρ c)) $$ R13
  ihave R21 := (Entails.of_eq (get21 m ρ c)) $$ R21
  ihave R29 := (Entails.of_eq (get29 m ρ c)) $$ R29
  ihave Rs5 := (share c _) $$ R5
  icases Rs5 with ⟨S5, R5⟩
  iapply (send_s m ρ c 16 11 (dev12 c _) (by decide) (put11 m ρ c)) $$ [S5 D11 HO T11]
  · isplitr; · iexact He
    isplitl [S5]; · iexact S5
    isplitl [D11]; · iexact D11
    isplitl [HO]; · iexact HO
    iexact T11
  iintro ⟨C2, HO⟩
  ihave Rs13 := (share c _) $$ R13
  icases Rs13 with ⟨S13, R13⟩
  iapply (send_s m ρ c 15 12 (dev13 c _) (by decide) (put12 m ρ c)) $$ [S13 D12 HO T12]
  · isplitr; · iexact He
    isplitl [S13]; · iexact S13
    isplitl [D12]; · iexact D12
    isplitl [HO]; · iexact HO
    iexact T12
  iintro ⟨C10, HO⟩
  ihave Rs21 := (share c _) $$ R21
  icases Rs21 with ⟨S21, R21⟩
  iapply (send_s m ρ c 14 13 (dev14 c _) (by decide) (put13 m ρ c)) $$ [S21 D13 HO T13]
  · isplitr; · iexact He
    isplitl [S21]; · iexact S21
    isplitl [D13]; · iexact D13
    isplitl [HO]; · iexact HO
    iexact T13
  iintro ⟨C18, HO⟩
  ihave Rs29 := (share c _) $$ R29
  icases Rs29 with ⟨S29, R29⟩
  iapply (send_s m ρ c 13 14 (dev15 c _) (by decide) (put14 m ρ c)) $$ [S29 D14 HO T14]
  · isplitr; · iexact He
    isplitl [S29]; · iexact S29
    isplitl [D14]; · iexact D14
    isplitl [HO]; · iexact HO
    iexact T14
  iintro ⟨C26, HO⟩
  iapply Hk
  isplitl [HO]; · iexact HO
  isplitl [C2 C10 C18 C26]
  · isplitl [C2]; · iexact C2
    isplitl [C10]; · iexact C10
    isplitl [C18]; · iexact C18
    isplitl [C26]; · iexact C26
    iempintro
  isplitl [R5 R13 R21 R29]
  · isplitl [R5]; · iexact R5
    isplitl [R13]; · iexact R13
    isplitl [R21]; · iexact R21
    iexact R29
  iexact Hz

/-- The second arrivals, sent on. -/
theorem arr1_wp {kt : P F} {Q : PUnit → sProp 𝕄} :
    iprop(env m ρ ∗ ow c 11 ∗ bigSepL [6, 14, 22, 30] (cr (F := F) c) ∗ bigSepL [6, 14, 22, 30] (pos (F := F) c) ∗ (any (F := F) (right c) (slotC G0 (at_ c 6)) ∗ any (F := F) (right c) (slotC G1 (at_ c 6)) ∗ any (F := F) (left c) (slotC G2 (at_ c 2)) ∗ any (F := F) (left c) (slotC G3 (at_ c 2))) ∗ bigSepL [17, 18, 19, 20] (tok (F := F) c))
      ⊢ iprop(((ow c 7 ∗ bigSepL [3, 11, 19, 27] (cr (F := F) c) ∗ (hold c (slotC G0 (at_ c 6)) qf (topW m (at_ c 6)) ∗ hold c (slotC G1 (at_ c 6)) qf (botW m (at_ c 6)) ∗ hold c (slotC G2 (at_ c 2)) qf (topW m (at_ c 2)) ∗ hold c (slotC G3 (at_ c 2)) qf (botW m (at_ c 2))) ∗ zs (F := F) c (insert 30 (insert 22 (insert 14 (insert 6 ∅))))) -∗ WP c kt Q) -∗ WP c (arr1 c kt) Q) := by
  simp only [bl_cons, bl_nil]
  unfold arr1
  simp only [bk0, bk1, bk2, bk3, bk4, ah0, ah1, ah2, ah3, bk5, bk6, bk7, rowsC_eq]
  iintro ⟨#He, HO, ⟨C6, C14, C22, C30, -⟩, ⟨P6, P14, P22, P30, -⟩, ⟨D17, D18, D19, D20⟩, T17, T18, T19, T20, -⟩ Hk
  ihave Hz := (Entails.of_eq (zs_nil (F := F) c)) $$ []
  · iempintro
  iapply (recv_h m ρ c (i := 6) 11 ∅ (by decide)) $$ [HO C6 P6 Hz]
  · isplitr; · iexact He
    isplitl [HO]; · iexact HO
    isplitl [C6]; · iexact C6
    isplitl [P6]; · iexact P6
    iexact Hz
  iintro ⟨HO, R6, Hz⟩
  iapply (recv_h m ρ c (i := 14) 11 (insert 6 ∅) (by decide)) $$ [HO C14 P14 Hz]
  · isplitr; · iexact He
    isplitl [HO]; · iexact HO
    isplitl [C14]; · iexact C14
    isplitl [P14]; · iexact P14
    iexact Hz
  iintro ⟨HO, R14, Hz⟩
  iapply (recv_h m ρ c (i := 22) 11 (insert 14 (insert 6 ∅)) (by decide)) $$ [HO C22 P22 Hz]
  · isplitr; · iexact He
    isplitl [HO]; · iexact HO
    isplitl [C22]; · iexact C22
    isplitl [P22]; · iexact P22
    iexact Hz
  iintro ⟨HO, R22, Hz⟩
  iapply (recv_h m ρ c (i := 30) 11 (insert 22 (insert 14 (insert 6 ∅))) (by decide)) $$ [HO C30 P30 Hz]
  · isplitr; · iexact He
    isplitl [HO]; · iexact HO
    isplitl [C30]; · iexact C30
    isplitl [P30]; · iexact P30
    iexact Hz
  iintro ⟨HO, R30, Hz⟩
  ihave R6 := (Entails.of_eq (get6 m ρ c)) $$ R6
  ihave R14 := (Entails.of_eq (get14 m ρ c)) $$ R14
  ihave R22 := (Entails.of_eq (get22 m ρ c)) $$ R22
  ihave R30 := (Entails.of_eq (get30 m ρ c)) $$ R30
  ihave Rs6 := (share c _) $$ R6
  icases Rs6 with ⟨S6, R6⟩
  iapply (send_s m ρ c 10 17 (dev18 c _) (by decide) (put17 m ρ c)) $$ [S6 D17 HO T17]
  · isplitr; · iexact He
    isplitl [S6]; · iexact S6
    isplitl [D17]; · iexact D17
    isplitl [HO]; · iexact HO
    iexact T17
  iintro ⟨C3, HO⟩
  ihave Rs14 := (share c _) $$ R14
  icases Rs14 with ⟨S14, R14⟩
  iapply (send_s m ρ c 9 18 (dev19 c _) (by decide) (put18 m ρ c)) $$ [S14 D18 HO T18]
  · isplitr; · iexact He
    isplitl [S14]; · iexact S14
    isplitl [D18]; · iexact D18
    isplitl [HO]; · iexact HO
    iexact T18
  iintro ⟨C11, HO⟩
  ihave Rs22 := (share c _) $$ R22
  icases Rs22 with ⟨S22, R22⟩
  iapply (send_s m ρ c 8 19 (dev20 c _) (by decide) (put19 m ρ c)) $$ [S22 D19 HO T19]
  · isplitr; · iexact He
    isplitl [S22]; · iexact S22
    isplitl [D19]; · iexact D19
    isplitl [HO]; · iexact HO
    iexact T19
  iintro ⟨C19, HO⟩
  ihave Rs30 := (share c _) $$ R30
  icases Rs30 with ⟨S30, R30⟩
  iapply (send_s m ρ c 7 20 (dev21 c _) (by decide) (put20 m ρ c)) $$ [S30 D20 HO T20]
  · isplitr; · iexact He
    isplitl [S30]; · iexact S30
    isplitl [D20]; · iexact D20
    isplitl [HO]; · iexact HO
    iexact T20
  iintro ⟨C27, HO⟩
  iapply Hk
  isplitl [HO]; · iexact HO
  isplitl [C3 C11 C19 C27]
  · isplitl [C3]; · iexact C3
    isplitl [C11]; · iexact C11
    isplitl [C19]; · iexact C19
    isplitl [C27]; · iexact C27
    iempintro
  isplitl [R6 R14 R22 R30]
  · isplitl [R6]; · iexact R6
    isplitl [R14]; · iexact R14
    isplitl [R22]; · iexact R22
    iexact R30
  iexact Hz

/-- The third arrivals, two of them sent on. -/
theorem arr2_wp {kt : P F} {Q : PUnit → sProp 𝕄} :
    iprop(env m ρ ∗ ow c 5 ∗ bigSepL [7, 15, 23, 31] (cr (F := F) c) ∗ bigSepL [7, 15, 23, 31] (pos (F := F) c) ∗ (any (F := F) (right c) (slotC G0 (at_ c 5)) ∗ any (F := F) (left c) (slotC G3 (at_ c 3))) ∗ bigSepL [23, 24] (tok (F := F) c))
      ⊢ iprop(((ow c 3 ∗ bigSepL [4, 28] (cr (F := F) c) ∗ (hold c (slotC G0 (at_ c 5)) qf (topW m (at_ c 5)) ∗ hold c (slotC G1 (at_ c 5)) fullShare (botW m (at_ c 5)) ∗ hold c (slotC G2 (at_ c 3)) fullShare (topW m (at_ c 3)) ∗ hold c (slotC G3 (at_ c 3)) qf (botW m (at_ c 3))) ∗ zs (F := F) c (insert 31 (insert 23 (insert 15 (insert 7 ∅))))) -∗ WP c kt Q) -∗ WP c (arr2 c kt) Q) := by
  simp only [bl_cons, bl_nil]
  unfold arr2
  simp only [bk0, bk1, bk2, bk3, bk4, ah0, ah1, ah2, ah3, bk5, bk6, bk7, rowsC_eq]
  iintro ⟨#He, HO, ⟨C7, C15, C23, C31, -⟩, ⟨P7, P15, P23, P31, -⟩, ⟨D23, D24⟩, T23, T24, -⟩ Hk
  ihave Hz := (Entails.of_eq (zs_nil (F := F) c)) $$ []
  · iempintro
  iapply (recv_h m ρ c (i := 7) 5 ∅ (by decide)) $$ [HO C7 P7 Hz]
  · isplitr; · iexact He
    isplitl [HO]; · iexact HO
    isplitl [C7]; · iexact C7
    isplitl [P7]; · iexact P7
    iexact Hz
  iintro ⟨HO, R7, Hz⟩
  iapply (recv_h m ρ c (i := 15) 5 (insert 7 ∅) (by decide)) $$ [HO C15 P15 Hz]
  · isplitr; · iexact He
    isplitl [HO]; · iexact HO
    isplitl [C15]; · iexact C15
    isplitl [P15]; · iexact P15
    iexact Hz
  iintro ⟨HO, R15, Hz⟩
  iapply (recv_h m ρ c (i := 23) 5 (insert 15 (insert 7 ∅)) (by decide)) $$ [HO C23 P23 Hz]
  · isplitr; · iexact He
    isplitl [HO]; · iexact HO
    isplitl [C23]; · iexact C23
    isplitl [P23]; · iexact P23
    iexact Hz
  iintro ⟨HO, R23, Hz⟩
  iapply (recv_h m ρ c (i := 31) 5 (insert 23 (insert 15 (insert 7 ∅))) (by decide)) $$ [HO C31 P31 Hz]
  · isplitr; · iexact He
    isplitl [HO]; · iexact HO
    isplitl [C31]; · iexact C31
    isplitl [P31]; · iexact P31
    iexact Hz
  iintro ⟨HO, R31, Hz⟩
  ihave R7 := (Entails.of_eq (get7 m ρ c)) $$ R7
  ihave R15 := (Entails.of_eq (get15 m ρ c)) $$ R15
  ihave R23 := (Entails.of_eq (get23 m ρ c)) $$ R23
  ihave R31 := (Entails.of_eq (get31 m ρ c)) $$ R31
  ihave Rs7 := (share c _) $$ R7
  icases Rs7 with ⟨S7, R7⟩
  iapply (send_s m ρ c 4 23 (dev24 c _) (by decide) (put23 m ρ c)) $$ [S7 D23 HO T23]
  · isplitr; · iexact He
    isplitl [S7]; · iexact S7
    isplitl [D23]; · iexact D23
    isplitl [HO]; · iexact HO
    iexact T23
  iintro ⟨C4, HO⟩
  ihave Rs31 := (share c _) $$ R31
  icases Rs31 with ⟨S31, R31⟩
  iapply (send_s m ρ c 3 24 (dev25 c _) (by decide) (put24 m ρ c)) $$ [S31 D24 HO T24]
  · isplitr; · iexact He
    isplitl [S31]; · iexact S31
    isplitl [D24]; · iexact D24
    isplitl [HO]; · iexact HO
    iexact T24
  iintro ⟨C28, HO⟩
  iapply Hk
  isplitl [HO]; · iexact HO
  isplitl [C4 C28]
  · isplitl [C4]; · iexact C4
    isplitl [C28]; · iexact C28
    iempintro
  isplitl [R7 R15 R23 R31]
  · isplitl [R7]; · iexact R7
    isplitl [R15]; · iexact R15
    isplitl [R23]; · iexact R23
    iexact R31
  iexact Hz

/-- The last arrivals. -/
theorem arr3_wp {kt : P F} {Q : PUnit → sProp 𝕄} :
    iprop(env m ρ ∗ ow c 1 ∗ bigSepL [8, 32] (cr (F := F) c) ∗ bigSepL [8, 32] (pos (F := F) c))
      ⊢ iprop(((ow c 1 ∗ (hold c (slotC G0 (at_ c 4)) fullShare (topW m (at_ c 4)) ∗ hold c (slotC G3 (at_ c 4)) fullShare (botW m (at_ c 4))) ∗ zs (F := F) c (insert 32 (insert 8 ∅))) -∗ WP c kt Q) -∗ WP c (arr3 c kt) Q) := by
  simp only [bl_cons, bl_nil]
  unfold arr3
  simp only [bk0, bk1, bk2, bk3, bk4, ah0, ah1, ah2, ah3, bk5, bk6, bk7, rowsC_eq]
  iintro ⟨#He, HO, ⟨C8, C32, -⟩, ⟨P8, P32, -⟩⟩ Hk
  ihave Hz := (Entails.of_eq (zs_nil (F := F) c)) $$ []
  · iempintro
  iapply (recv_h m ρ c (i := 8) 1 ∅ (by decide)) $$ [HO C8 P8 Hz]
  · isplitr; · iexact He
    isplitl [HO]; · iexact HO
    isplitl [C8]; · iexact C8
    isplitl [P8]; · iexact P8
    iexact Hz
  iintro ⟨HO, R8, Hz⟩
  iapply (recv_h m ρ c (i := 32) 1 (insert 8 ∅) (by decide)) $$ [HO C32 P32 Hz]
  · isplitr; · iexact He
    isplitl [HO]; · iexact HO
    isplitl [C32]; · iexact C32
    isplitl [P32]; · iexact P32
    iexact Hz
  iintro ⟨HO, R32, Hz⟩
  ihave R8 := (Entails.of_eq (get8 m ρ c)) $$ R8
  ihave R32 := (Entails.of_eq (get32 m ρ c)) $$ R32
  iapply Hk
  isplitl [HO]; · iexact HO
  isplitl [R8 R32]
  · isplitl [R8]; · iexact R8
    iexact R32
  iexact Hz

/-- The hops' own ends. -/
theorem drainH_wp {kt : P F} {Q : PUnit → sProp 𝕄} :
    iprop(env m ρ ∗ ow c 0 ∗ bigSepL [1, 9, 17, 25, 2, 10, 18, 26, 3, 11, 19, 27, 4, 28] (cr (F := F) c) ∗ bigSepL [1, 9, 17, 25, 2, 10, 18, 26, 3, 11, 19, 27, 4, 28] (pos (F := F) c))
      ⊢ iprop(((ow c 0 ∗ zs (F := F) c (insert 28 (insert 4 (insert 27 (insert 19 (insert 11 (insert 3 (insert 26 (insert 18 (insert 10 (insert 2 (insert 25 (insert 17 (insert 9 (insert 1 ∅))))))))))))))) -∗ WP c kt Q) -∗ WP c (drainH c kt) Q) := by
  simp only [bl_cons, bl_nil]
  unfold drainH
  simp only [bk0, bk1, bk2, bk3, bk4, ah0, ah1, ah2, ah3, bk5, bk6, bk7, rowsC_eq]
  iintro ⟨#He, HO, ⟨C1, C9, C17, C25, C2, C10, C18, C26, C3, C11, C19, C27, C4, C28, -⟩, ⟨P1, P9, P17, P25, P2, P10, P18, P26, P3, P11, P19, P27, P4, P28, -⟩⟩ Hk
  ihave Hz := (Entails.of_eq (zs_nil (F := F) c)) $$ []
  · iempintro
  iapply (recv_h m ρ c (i := 1) 0 ∅ (by decide)) $$ [HO C1 P1 Hz]
  · isplitr; · iexact He
    isplitl [HO]; · iexact HO
    isplitl [C1]; · iexact C1
    isplitl [P1]; · iexact P1
    iexact Hz
  iintro ⟨HO, -, Hz⟩
  iapply (recv_h m ρ c (i := 9) 0 (insert 1 ∅) (by decide)) $$ [HO C9 P9 Hz]
  · isplitr; · iexact He
    isplitl [HO]; · iexact HO
    isplitl [C9]; · iexact C9
    isplitl [P9]; · iexact P9
    iexact Hz
  iintro ⟨HO, -, Hz⟩
  iapply (recv_h m ρ c (i := 17) 0 (insert 9 (insert 1 ∅)) (by decide)) $$ [HO C17 P17 Hz]
  · isplitr; · iexact He
    isplitl [HO]; · iexact HO
    isplitl [C17]; · iexact C17
    isplitl [P17]; · iexact P17
    iexact Hz
  iintro ⟨HO, -, Hz⟩
  iapply (recv_h m ρ c (i := 25) 0 (insert 17 (insert 9 (insert 1 ∅))) (by decide)) $$ [HO C25 P25 Hz]
  · isplitr; · iexact He
    isplitl [HO]; · iexact HO
    isplitl [C25]; · iexact C25
    isplitl [P25]; · iexact P25
    iexact Hz
  iintro ⟨HO, -, Hz⟩
  iapply (recv_h m ρ c (i := 2) 0 (insert 25 (insert 17 (insert 9 (insert 1 ∅)))) (by decide)) $$ [HO C2 P2 Hz]
  · isplitr; · iexact He
    isplitl [HO]; · iexact HO
    isplitl [C2]; · iexact C2
    isplitl [P2]; · iexact P2
    iexact Hz
  iintro ⟨HO, -, Hz⟩
  iapply (recv_h m ρ c (i := 10) 0 (insert 2 (insert 25 (insert 17 (insert 9 (insert 1 ∅))))) (by decide)) $$ [HO C10 P10 Hz]
  · isplitr; · iexact He
    isplitl [HO]; · iexact HO
    isplitl [C10]; · iexact C10
    isplitl [P10]; · iexact P10
    iexact Hz
  iintro ⟨HO, -, Hz⟩
  iapply (recv_h m ρ c (i := 18) 0 (insert 10 (insert 2 (insert 25 (insert 17 (insert 9 (insert 1 ∅)))))) (by decide)) $$ [HO C18 P18 Hz]
  · isplitr; · iexact He
    isplitl [HO]; · iexact HO
    isplitl [C18]; · iexact C18
    isplitl [P18]; · iexact P18
    iexact Hz
  iintro ⟨HO, -, Hz⟩
  iapply (recv_h m ρ c (i := 26) 0 (insert 18 (insert 10 (insert 2 (insert 25 (insert 17 (insert 9 (insert 1 ∅))))))) (by decide)) $$ [HO C26 P26 Hz]
  · isplitr; · iexact He
    isplitl [HO]; · iexact HO
    isplitl [C26]; · iexact C26
    isplitl [P26]; · iexact P26
    iexact Hz
  iintro ⟨HO, -, Hz⟩
  iapply (recv_h m ρ c (i := 3) 0 (insert 26 (insert 18 (insert 10 (insert 2 (insert 25 (insert 17 (insert 9 (insert 1 ∅)))))))) (by decide)) $$ [HO C3 P3 Hz]
  · isplitr; · iexact He
    isplitl [HO]; · iexact HO
    isplitl [C3]; · iexact C3
    isplitl [P3]; · iexact P3
    iexact Hz
  iintro ⟨HO, -, Hz⟩
  iapply (recv_h m ρ c (i := 11) 0 (insert 3 (insert 26 (insert 18 (insert 10 (insert 2 (insert 25 (insert 17 (insert 9 (insert 1 ∅))))))))) (by decide)) $$ [HO C11 P11 Hz]
  · isplitr; · iexact He
    isplitl [HO]; · iexact HO
    isplitl [C11]; · iexact C11
    isplitl [P11]; · iexact P11
    iexact Hz
  iintro ⟨HO, -, Hz⟩
  iapply (recv_h m ρ c (i := 19) 0 (insert 11 (insert 3 (insert 26 (insert 18 (insert 10 (insert 2 (insert 25 (insert 17 (insert 9 (insert 1 ∅)))))))))) (by decide)) $$ [HO C19 P19 Hz]
  · isplitr; · iexact He
    isplitl [HO]; · iexact HO
    isplitl [C19]; · iexact C19
    isplitl [P19]; · iexact P19
    iexact Hz
  iintro ⟨HO, -, Hz⟩
  iapply (recv_h m ρ c (i := 27) 0 (insert 19 (insert 11 (insert 3 (insert 26 (insert 18 (insert 10 (insert 2 (insert 25 (insert 17 (insert 9 (insert 1 ∅))))))))))) (by decide)) $$ [HO C27 P27 Hz]
  · isplitr; · iexact He
    isplitl [HO]; · iexact HO
    isplitl [C27]; · iexact C27
    isplitl [P27]; · iexact P27
    iexact Hz
  iintro ⟨HO, -, Hz⟩
  iapply (recv_h m ρ c (i := 4) 0 (insert 27 (insert 19 (insert 11 (insert 3 (insert 26 (insert 18 (insert 10 (insert 2 (insert 25 (insert 17 (insert 9 (insert 1 ∅)))))))))))) (by decide)) $$ [HO C4 P4 Hz]
  · isplitr; · iexact He
    isplitl [HO]; · iexact HO
    isplitl [C4]; · iexact C4
    isplitl [P4]; · iexact P4
    iexact Hz
  iintro ⟨HO, -, Hz⟩
  iapply (recv_h m ρ c (i := 28) 0 (insert 4 (insert 27 (insert 19 (insert 11 (insert 3 (insert 26 (insert 18 (insert 10 (insert 2 (insert 25 (insert 17 (insert 9 (insert 1 ∅))))))))))))) (by decide)) $$ [HO C28 P28 Hz]
  · isplitr; · iexact He
    isplitl [HO]; · iexact HO
    isplitl [C28]; · iexact C28
    isplitl [P28]; · iexact P28
    iexact Hz
  iintro ⟨HO, -, Hz⟩
  iapply Hk
  isplitl [HO]; · iexact HO
  iexact Hz

/-- The result blocks' own ends, and the own block's copy. -/
theorem drainB_wp {kt : P F} {Q : PUnit → sProp 𝕄} :
    iprop(env m ρ ∗ ow c 0 ∗ bigSepL [33, 39, 34, 38, 35, 37, 36] (cr (F := F) c) ∗ bigSepL [33, 39, 34, 38, 35, 37, 36] (pos (F := F) c) ∗ Transfers.Flight EC (c : Thread nD τ) (.dma 49) () NB iprop(hold c (rowsO c) fullShare (blkV m ρ c c) ∗ any (F := F) c ownM))
      ⊢ iprop(((ow c 0 ∗ hold c (rowsO c) fullShare (blkV m ρ c c) ∗ any (F := F) c ownM ∗ semVal ((c : Thread nD τ), .dma 49) 0 ∗ zs (F := F) c (insert 36 (insert 37 (insert 35 (insert 38 (insert 34 (insert 39 (insert 33 ∅)))))))) -∗ WP c kt Q) -∗ WP c (drainB c kt) Q) := by
  simp only [bl_cons, bl_nil]
  unfold drainB
  simp only [bk0, bk1, bk2, bk3, bk4, ah0, ah1, ah2, ah3, bk5, bk6, bk7, rowsC_eq]
  iintro ⟨#He, HO, ⟨C33, C39, C34, C38, C35, C37, C36, -⟩, ⟨P33, P39, P34, P38, P35, P37, P36, -⟩, Hf⟩ Hk
  ihave Hz := (Entails.of_eq (zs_nil (F := F) c)) $$ []
  · iempintro
  iapply (recv_b m ρ c (i := 33) 0 ∅ (by decide)) $$ [HO C33 P33 Hz]
  · isplitr; · iexact He
    isplitl [HO]; · iexact HO
    isplitl [C33]; · iexact C33
    isplitl [P33]; · iexact P33
    iexact Hz
  iintro ⟨HO, -, Hz⟩
  iapply (recv_b m ρ c (i := 39) 0 (insert 33 ∅) (by decide)) $$ [HO C39 P39 Hz]
  · isplitr; · iexact He
    isplitl [HO]; · iexact HO
    isplitl [C39]; · iexact C39
    isplitl [P39]; · iexact P39
    iexact Hz
  iintro ⟨HO, -, Hz⟩
  iapply (recv_b m ρ c (i := 34) 0 (insert 39 (insert 33 ∅)) (by decide)) $$ [HO C34 P34 Hz]
  · isplitr; · iexact He
    isplitl [HO]; · iexact HO
    isplitl [C34]; · iexact C34
    isplitl [P34]; · iexact P34
    iexact Hz
  iintro ⟨HO, -, Hz⟩
  iapply (recv_b m ρ c (i := 38) 0 (insert 34 (insert 39 (insert 33 ∅))) (by decide)) $$ [HO C38 P38 Hz]
  · isplitr; · iexact He
    isplitl [HO]; · iexact HO
    isplitl [C38]; · iexact C38
    isplitl [P38]; · iexact P38
    iexact Hz
  iintro ⟨HO, -, Hz⟩
  iapply (recv_b m ρ c (i := 35) 0 (insert 38 (insert 34 (insert 39 (insert 33 ∅)))) (by decide)) $$ [HO C35 P35 Hz]
  · isplitr; · iexact He
    isplitl [HO]; · iexact HO
    isplitl [C35]; · iexact C35
    isplitl [P35]; · iexact P35
    iexact Hz
  iintro ⟨HO, -, Hz⟩
  iapply (recv_b m ρ c (i := 37) 0 (insert 35 (insert 38 (insert 34 (insert 39 (insert 33 ∅))))) (by decide)) $$ [HO C37 P37 Hz]
  · isplitr; · iexact He
    isplitl [HO]; · iexact HO
    isplitl [C37]; · iexact C37
    isplitl [P37]; · iexact P37
    iexact Hz
  iintro ⟨HO, -, Hz⟩
  iapply (recv_b m ρ c (i := 36) 0 (insert 37 (insert 35 (insert 38 (insert 34 (insert 39 (insert 33 ∅)))))) (by decide)) $$ [HO C36 P36 Hz]
  · isplitr; · iexact He
    isplitl [HO]; · iexact HO
    isplitl [C36]; · iexact C36
    isplitl [P36]; · iexact P36
    iexact Hz
  iintro ⟨HO, -, Hz⟩
  iapply (copied_wp m ρ c (dst := rowsO c) (s := 49) (n := 0) rfl (by decide)) $$ [Hf HO]
  · isplitr; · iexact He
    isplitl [Hf]; · iexact Hf
    iexact HO
  iintro ⟨⟨Hr, Hown⟩, Hv, HO⟩
  iapply Hk
  isplitl [HO]; · iexact HO
  isplitl [Hr]; · iexact Hr
  isplitl [Hown]; · iexact Hown
  isplitl [Hv]; · iexact Hv
  iexact Hz

/-- The other devices' blocks. -/
theorem arrB_wp {kt : P F} {Q : PUnit → sProp 𝕄} :
    iprop(env m ρ ∗ ow c 0 ∗ bigSepL [40, 46, 41, 45, 42, 44, 43] (cr (F := F) c) ∗ bigSepL [40, 46, 41, 45, 42, 44, 43] (pos (F := F) c))
      ⊢ iprop(((ow c 0 ∗ bigSepL [40, 46, 41, 45, 42, 44, 43] (dmaPay m ρ c) ∗ zs (F := F) c (insert 43 (insert 44 (insert 42 (insert 45 (insert 41 (insert 46 (insert 40 ∅)))))))) -∗ WP c kt Q) -∗ WP c (arrB c kt) Q) := by
  simp only [bl_cons, bl_nil]
  unfold arrB
  iintro ⟨#He, HO, ⟨C40, C46, C41, C45, C42, C44, C43, -⟩, ⟨P40, P46, P41, P45, P42, P44, P43, -⟩⟩ Hk
  ihave Hz := (Entails.of_eq (zs_nil (F := F) c)) $$ []
  · iempintro
  iapply (recv_b m ρ c (i := 40) 0 ∅ (by decide)) $$ [HO C40 P40 Hz]
  · isplitr; · iexact He
    isplitl [HO]; · iexact HO
    isplitl [C40]; · iexact C40
    isplitl [P40]; · iexact P40
    iexact Hz
  iintro ⟨HO, R40, Hz⟩
  iapply (recv_b m ρ c (i := 46) 0 (insert 40 ∅) (by decide)) $$ [HO C46 P46 Hz]
  · isplitr; · iexact He
    isplitl [HO]; · iexact HO
    isplitl [C46]; · iexact C46
    isplitl [P46]; · iexact P46
    iexact Hz
  iintro ⟨HO, R46, Hz⟩
  iapply (recv_b m ρ c (i := 41) 0 (insert 46 (insert 40 ∅)) (by decide)) $$ [HO C41 P41 Hz]
  · isplitr; · iexact He
    isplitl [HO]; · iexact HO
    isplitl [C41]; · iexact C41
    isplitl [P41]; · iexact P41
    iexact Hz
  iintro ⟨HO, R41, Hz⟩
  iapply (recv_b m ρ c (i := 45) 0 (insert 41 (insert 46 (insert 40 ∅))) (by decide)) $$ [HO C45 P45 Hz]
  · isplitr; · iexact He
    isplitl [HO]; · iexact HO
    isplitl [C45]; · iexact C45
    isplitl [P45]; · iexact P45
    iexact Hz
  iintro ⟨HO, R45, Hz⟩
  iapply (recv_b m ρ c (i := 42) 0 (insert 45 (insert 41 (insert 46 (insert 40 ∅)))) (by decide)) $$ [HO C42 P42 Hz]
  · isplitr; · iexact He
    isplitl [HO]; · iexact HO
    isplitl [C42]; · iexact C42
    isplitl [P42]; · iexact P42
    iexact Hz
  iintro ⟨HO, R42, Hz⟩
  iapply (recv_b m ρ c (i := 44) 0 (insert 42 (insert 45 (insert 41 (insert 46 (insert 40 ∅))))) (by decide)) $$ [HO C44 P44 Hz]
  · isplitr; · iexact He
    isplitl [HO]; · iexact HO
    isplitl [C44]; · iexact C44
    isplitl [P44]; · iexact P44
    iexact Hz
  iintro ⟨HO, R44, Hz⟩
  iapply (recv_b m ρ c (i := 43) 0 (insert 44 (insert 42 (insert 45 (insert 41 (insert 46 (insert 40 ∅)))))) (by decide)) $$ [HO C43 P43 Hz]
  · isplitr; · iexact He
    isplitl [HO]; · iexact HO
    isplitl [C43]; · iexact C43
    isplitl [P43]; · iexact P43
    iexact Hz
  iintro ⟨HO, R43, Hz⟩
  iapply Hk
  isplitl [HO]; · iexact HO
  isplitl [R40 R46 R41 R45 R42 R44 R43]
  · isplitl [R40]; · iexact R40
    isplitl [R46]; · iexact R46
    isplitl [R41]; · iexact R41
    isplitl [R45]; · iexact R45
    isplitl [R42]; · iexact R42
    isplitl [R44]; · iexact R44
    isplitl [R43]; · iexact R43
    iempintro
  iexact Hz

/-! ## The blocks -/

abbrev buf0 : Memref sig .tc .vmem S1024x512 .f32 := bufP ![0, 0, 0] inb_S2x1024x512_S1x1024x512_0_0_0
abbrev buf1 : Memref sig .tc .vmem S1024x512 .f32 := bufP ![1, 0, 0] inb_S2x1024x512_S1x1024x512_1_0_0

/-- What the products share: the operand rows, the stage, both places of the buffer, the local copies' counters. -/
def wks : sProp 𝕄 :=
  iprop(hold c xM fullShare (xAt m ρ c) ∗ any (F := F) c stM ∗ any (F := F) c buf0 ∗ any (F := F) c buf1
    ∗ semVal ((c : Thread nD τ), .dma 47) 0 ∗ semVal ((c : Thread nD τ), .dma 48) 0 ∗ semVal ((c : Thread nD τ), .dma 50) 0 ∗ semVal ((c : Thread nD τ), .dma 51) 0)

/-- The shared pieces lend what a product through the first place needs, and take it back. -/
theorem wks_even : wks m ρ c ⊢ iprop(wk m ρ c 50 ![0, 0, 0] inb_S2x1024x512_S1x1024x512_0_0_0 ∗ (wk m ρ c 50 ![0, 0, 0] inb_S2x1024x512_S1x1024x512_0_0_0 -∗ wks m ρ c)) := by
  unfold wks wk
  iintro ⟨Hx, Hst, H0, H1, V1, V2, V3, V4⟩
  isplitl [Hx Hst H0 V1 V2 V3]
  · isplitl [Hx]; · iexact Hx
    isplitl [Hst]; · iexact Hst
    isplitl [H0]; · iexact H0
    isplitl [V1]; · iexact V1
    isplitl [V2]; · iexact V2
    iexact V3
  iintro ⟨Hx, Hst, H0, V1, V2, V3⟩
  isplitl [Hx]; · iexact Hx
  isplitl [Hst]; · iexact Hst
  isplitl [H0]; · iexact H0
  isplitl [H1]; · iexact H1
  isplitl [V1]; · iexact V1
  isplitl [V2]; · iexact V2
  isplitl [V3]; · iexact V3
  iexact V4

/-- And through the second place. -/
theorem wks_odd : wks m ρ c ⊢ iprop(wk m ρ c 51 ![1, 0, 0] inb_S2x1024x512_S1x1024x512_1_0_0 ∗ (wk m ρ c 51 ![1, 0, 0] inb_S2x1024x512_S1x1024x512_1_0_0 -∗ wks m ρ c)) := by
  unfold wks wk
  iintro ⟨Hx, Hst, H0, H1, V1, V2, V3, V4⟩
  isplitl [Hx Hst H1 V1 V2 V4]
  · isplitl [Hx]; · iexact Hx
    isplitl [Hst]; · iexact Hst
    isplitl [H1]; · iexact H1
    isplitl [V1]; · iexact V1
    isplitl [V2]; · iexact V2
    iexact V4
  iintro ⟨Hx, Hst, H1, V1, V2, V4⟩
  isplitl [Hx]; · iexact Hx
  isplitl [Hst]; · iexact Hst
  isplitl [H0]; · iexact H0
  isplitl [H1]; · iexact H1
  isplitl [V1]; · iexact V1
  isplitl [V2]; · iexact V2
  isplitl [V3]; · iexact V3
  iexact V4

/-- What the program computes for the device at distance 1 is the block of that device. -/
theorem pr1_pay (o : Dev nD) (h : S1x1024x512.ShapeCasts S1024x512) :
    shapeCast S1024x512 ((fun x w => k0_pay6 (F := F) (k0_pay5 x) w (constant S1024x512 .f32 0x00000000#32)) (xAt m ρ c) (wAt m o)) h = blkV m ρ c o := by
  unfold blkV k0_pay4 k0_pay3 k0_pay2 k0_pay1 k0_pay6 k0_pay5
  simp only [shapeCast_self, shapeCast_shapeCast]

/-- Distance 1: from the arrived halves the block is computed and sent to its device. -/
theorem pr1_wp {kt : P F} {Q : PUnit → sProp 𝕄} :
    iprop(env m ρ ∗ ow c 13 ∗ wks m ρ c ∗ (hold c (slotC G0 (at_ c 7)) qf (topW m (at_ c 7)) ∗ hold c (slotC G1 (at_ c 7)) qf (botW m (at_ c 7))) ∗ any (F := F) c (boxP ![0, 0, 0] inb_S7x1024x512_S1x1024x512_0_0_0)
        ∗ any (F := F) (at_ c 7) (rowsO c) ∗ tok (F := F) c 15)
      ⊢ iprop(((ow c 12 ∗ wks m ρ c ∗ cr (F := F) c 33) -∗ WP c kt Q) -∗ WP c (pr1 c kt) Q) := by
  unfold pr1
  simp only [bk0, bk1, bk2, bk3, bk4, ah0, ah1, ah2, ah3, bk5, bk6, bk7, rowsC_eq]
  iintro ⟨#He, HO, Hw, Hs, Hb, Hd, Ht⟩ Hk
  ihave Hw' := (wks_even m ρ c) $$ Hw
  icases Hw' with ⟨Hw, Hback⟩
  iapply (proc_wp m ρ c (n := 12) (l := 50) (pay := (fun x w => k0_pay6 (F := F) (k0_pay5 x) w (constant S1024x512 .f32 0x00000000#32))) 15 (at_ c 7) (by decide) (by decide) (off3 c) (dev16 c _) (by decide)
    (pr1_pay m ρ c _ _) (put15 m ρ c)) $$ [HO Hw Hs Hb Hd Ht]
  · isplitr; · iexact He
    isplitl [HO]; · iexact HO
    isplitl [Hw]; · iexact Hw
    isplitl [Hs]; · iexact Hs
    isplitl [Hb]; · iexact Hb
    isplitl [Hd]; · iexact Hd
    iexact Ht
  iintro ⟨HO, Hw, Hc⟩
  iapply Hk
  isplitl [HO]; · iexact HO
  isplitl [Hw Hback]; · iapply Hback; iexact Hw
  iexact Hc

/-- What the program computes for the device at distance 7 is the block of that device. -/
theorem pr7_pay (o : Dev nD) (h : S1x1024x512.ShapeCasts S1024x512) :
    shapeCast S1024x512 ((k0_pay7 (F := F)) (xAt m ρ c) (wAt m o)) h = blkV m ρ c o := by
  unfold blkV k0_pay4 k0_pay3 k0_pay2 k0_pay1 k0_pay7
  simp only [shapeCast_self, shapeCast_shapeCast]

/-- Distance 7: from the arrived halves the block is computed and sent to its device. -/
theorem pr7_wp {kt : P F} {Q : PUnit → sProp 𝕄} :
    iprop(env m ρ ∗ ow c 12 ∗ wks m ρ c ∗ (hold c (slotC G2 (at_ c 1)) qf (topW m (at_ c 1)) ∗ hold c (slotC G3 (at_ c 1)) qf (botW m (at_ c 1))) ∗ any (F := F) c (boxP ![6, 0, 0] inb_S7x1024x512_S1x1024x512_6_0_0)
        ∗ any (F := F) (at_ c 1) (rowsO c) ∗ tok (F := F) c 16)
      ⊢ iprop(((ow c 11 ∗ wks m ρ c ∗ cr (F := F) c 39) -∗ WP c kt Q) -∗ WP c (pr7 c kt) Q) := by
  unfold pr7
  simp only [bk0, bk1, bk2, bk3, bk4, ah0, ah1, ah2, ah3, bk5, bk6, bk7, rowsC_eq]
  iintro ⟨#He, HO, Hw, Hs, Hb, Hd, Ht⟩ Hk
  ihave Hw' := (wks_even m ρ c) $$ Hw
  icases Hw' with ⟨Hw, Hback⟩
  iapply (proc_wp m ρ c (n := 11) (l := 50) (pay := (k0_pay7 (F := F))) 16 (at_ c 1) (by decide) (by decide) (off3 c) (dev17 c _) (by decide)
    (pr7_pay m ρ c _ _) (put16 m ρ c)) $$ [HO Hw Hs Hb Hd Ht]
  · isplitr; · iexact He
    isplitl [HO]; · iexact HO
    isplitl [Hw]; · iexact Hw
    isplitl [Hs]; · iexact Hs
    isplitl [Hb]; · iexact Hb
    isplitl [Hd]; · iexact Hd
    iexact Ht
  iintro ⟨HO, Hw, Hc⟩
  iapply Hk
  isplitl [HO]; · iexact HO
  isplitl [Hw Hback]; · iapply Hback; iexact Hw
  iexact Hc

/-- What the program computes for the device at distance 2 is the block of that device. -/
theorem pr2_pay (o : Dev nD) (h : S1x1024x512.ShapeCasts S1024x512) :
    shapeCast S1024x512 ((k0_pay8 (F := F)) (xAt m ρ c) (wAt m o)) h = blkV m ρ c o := by
  unfold blkV k0_pay4 k0_pay3 k0_pay2 k0_pay1 k0_pay8
  simp only [shapeCast_self, shapeCast_shapeCast]

/-- Distance 2: from the arrived halves the block is computed and sent to its device. -/
theorem pr2_wp {kt : P F} {Q : PUnit → sProp 𝕄} :
    iprop(env m ρ ∗ ow c 7 ∗ wks m ρ c ∗ (hold c (slotC G0 (at_ c 6)) qf (topW m (at_ c 6)) ∗ hold c (slotC G1 (at_ c 6)) qf (botW m (at_ c 6))) ∗ any (F := F) c (boxP ![1, 0, 0] inb_S7x1024x512_S1x1024x512_1_0_0)
        ∗ any (F := F) (at_ c 6) (rowsO c) ∗ tok (F := F) c 21)
      ⊢ iprop(((ow c 6 ∗ wks m ρ c ∗ cr (F := F) c 34) -∗ WP c kt Q) -∗ WP c (pr2 c kt) Q) := by
  unfold pr2
  simp only [bk0, bk1, bk2, bk3, bk4, ah0, ah1, ah2, ah3, bk5, bk6, bk7, rowsC_eq]
  iintro ⟨#He, HO, Hw, Hs, Hb, Hd, Ht⟩ Hk
  ihave Hw' := (wks_odd m ρ c) $$ Hw
  icases Hw' with ⟨Hw, Hback⟩
  iapply (proc_wp m ρ c (n := 6) (l := 51) (pay := (k0_pay8 (F := F))) 21 (at_ c 6) (by decide) (by decide) (off3 c) (dev22 c _) (by decide)
    (pr2_pay m ρ c _ _) (put21 m ρ c)) $$ [HO Hw Hs Hb Hd Ht]
  · isplitr; · iexact He
    isplitl [HO]; · iexact HO
    isplitl [Hw]; · iexact Hw
    isplitl [Hs]; · iexact Hs
    isplitl [Hb]; · iexact Hb
    isplitl [Hd]; · iexact Hd
    iexact Ht
  iintro ⟨HO, Hw, Hc⟩
  iapply Hk
  isplitl [HO]; · iexact HO
  isplitl [Hw Hback]; · iapply Hback; iexact Hw
  iexact Hc

/-- What the program computes for the device at distance 6 is the block of that device. -/
theorem pr6_pay (o : Dev nD) (h : S1x1024x512.ShapeCasts S1024x512) :
    shapeCast S1024x512 ((fun x w => k0_pay13 (F := F) (k0_pay10 x w) (k0_pay11 x w) k0_pay12) (xAt m ρ c) (wAt m o)) h = blkV m ρ c o := by
  unfold blkV k0_pay4 k0_pay3 k0_pay2 k0_pay1 k0_pay13 k0_pay12 k0_pay11 k0_pay10 k0_pay9
  simp only [shapeCast_self, shapeCast_shapeCast]

/-- Distance 6: from the arrived halves the block is computed and sent to its device. -/
theorem pr6_wp {kt : P F} {Q : PUnit → sProp 𝕄} :
    iprop(env m ρ ∗ ow c 6 ∗ wks m ρ c ∗ (hold c (slotC G2 (at_ c 2)) qf (topW m (at_ c 2)) ∗ hold c (slotC G3 (at_ c 2)) qf (botW m (at_ c 2))) ∗ any (F := F) c (boxP ![5, 0, 0] inb_S7x1024x512_S1x1024x512_5_0_0)
        ∗ any (F := F) (at_ c 2) (rowsO c) ∗ tok (F := F) c 22)
      ⊢ iprop(((ow c 5 ∗ wks m ρ c ∗ cr (F := F) c 38) -∗ WP c kt Q) -∗ WP c (pr6 c kt) Q) := by
  unfold pr6
  simp only [bk0, bk1, bk2, bk3, bk4, ah0, ah1, ah2, ah3, bk5, bk6, bk7, rowsC_eq]
  iintro ⟨#He, HO, Hw, Hs, Hb, Hd, Ht⟩ Hk
  ihave Hw' := (wks_odd m ρ c) $$ Hw
  icases Hw' with ⟨Hw, Hback⟩
  iapply (proc_wp m ρ c (n := 5) (l := 51) (pay := (fun x w => k0_pay13 (F := F) (k0_pay10 x w) (k0_pay11 x w) k0_pay12)) 22 (at_ c 2) (by decide) (by decide) (off3 c) (dev23 c _) (by decide)
    (pr6_pay m ρ c _ _) (put22 m ρ c)) $$ [HO Hw Hs Hb Hd Ht]
  · isplitr; · iexact He
    isplitl [HO]; · iexact HO
    isplitl [Hw]; · iexact Hw
    isplitl [Hs]; · iexact Hs
    isplitl [Hb]; · iexact Hb
    isplitl [Hd]; · iexact Hd
    iexact Ht
  iintro ⟨HO, Hw, Hc⟩
  iapply Hk
  isplitl [HO]; · iexact HO
  isplitl [Hw Hback]; · iapply Hback; iexact Hw
  iexact Hc

/-- What the program computes for the device at distance 3 is the block of that device. -/
theorem pr3_pay (o : Dev nD) (h : S1x1024x512.ShapeCasts S1024x512) :
    shapeCast S1024x512 ((fun x w => k0_pay15 (F := F) (k0_pay14 x) w) (xAt m ρ c) (wAt m o)) h = blkV m ρ c o := by
  unfold blkV k0_pay4 k0_pay3 k0_pay2 k0_pay1 k0_pay15 k0_pay14
  simp only [shapeCast_self, shapeCast_shapeCast]

/-- Distance 3: from the arrived halves the block is computed and sent to its device. -/
theorem pr3_wp {kt : P F} {Q : PUnit → sProp 𝕄} :
    iprop(env m ρ ∗ ow c 3 ∗ wks m ρ c ∗ (hold c (slotC G0 (at_ c 5)) qf (topW m (at_ c 5)) ∗ hold c (slotC G1 (at_ c 5)) fullShare (botW m (at_ c 5))) ∗ any (F := F) c (boxP ![2, 0, 0] inb_S7x1024x512_S1x1024x512_2_0_0)
        ∗ any (F := F) (at_ c 5) (rowsO c) ∗ tok (F := F) c 25)
      ⊢ iprop(((ow c 2 ∗ wks m ρ c ∗ cr (F := F) c 35) -∗ WP c kt Q) -∗ WP c (pr3 c kt) Q) := by
  unfold pr3
  simp only [bk0, bk1, bk2, bk3, bk4, ah0, ah1, ah2, ah3, bk5, bk6, bk7, rowsC_eq]
  iintro ⟨#He, HO, Hw, Hs, Hb, Hd, Ht⟩ Hk
  ihave Hw' := (wks_even m ρ c) $$ Hw
  icases Hw' with ⟨Hw, Hback⟩
  iapply (proc_wp m ρ c (n := 2) (l := 50) (pay := (fun x w => k0_pay15 (F := F) (k0_pay14 x) w)) 25 (at_ c 5) (by decide) (by decide) (off3 c) (dev26 c _) (by decide)
    (pr3_pay m ρ c _ _) (put25 m ρ c)) $$ [HO Hw Hs Hb Hd Ht]
  · isplitr; · iexact He
    isplitl [HO]; · iexact HO
    isplitl [Hw]; · iexact Hw
    isplitl [Hs]; · iexact Hs
    isplitl [Hb]; · iexact Hb
    isplitl [Hd]; · iexact Hd
    iexact Ht
  iintro ⟨HO, Hw, Hc⟩
  iapply Hk
  isplitl [HO]; · iexact HO
  isplitl [Hw Hback]; · iapply Hback; iexact Hw
  iexact Hc

/-- What the program computes for the device at distance 5 is the block of that device. -/
theorem pr5_pay (o : Dev nD) (h : S1x1024x512.ShapeCasts S1024x512) :
    shapeCast S1024x512 ((k0_pay16 (F := F)) (xAt m ρ c) (wAt m o)) h = blkV m ρ c o := by
  unfold blkV k0_pay4 k0_pay3 k0_pay2 k0_pay1 k0_pay16
  simp only [shapeCast_self, shapeCast_shapeCast]

/-- Distance 5: from the arrived halves the block is computed and sent to its device. -/
theorem pr5_wp {kt : P F} {Q : PUnit → sProp 𝕄} :
    iprop(env m ρ ∗ ow c 2 ∗ wks m ρ c ∗ (hold c (slotC G2 (at_ c 3)) fullShare (topW m (at_ c 3)) ∗ hold c (slotC G3 (at_ c 3)) qf (botW m (at_ c 3))) ∗ any (F := F) c (boxP ![4, 0, 0] inb_S7x1024x512_S1x1024x512_4_0_0)
        ∗ any (F := F) (at_ c 3) (rowsO c) ∗ tok (F := F) c 26)
      ⊢ iprop(((ow c 1 ∗ wks m ρ c ∗ cr (F := F) c 37) -∗ WP c kt Q) -∗ WP c (pr5 c kt) Q) := by
  unfold pr5
  simp only [bk0, bk1, bk2, bk3, bk4, ah0, ah1, ah2, ah3, bk5, bk6, bk7, rowsC_eq]
  iintro ⟨#He, HO, Hw, Hs, Hb, Hd, Ht⟩ Hk
  ihave Hw' := (wks_even m ρ c) $$ Hw
  icases Hw' with ⟨Hw, Hback⟩
  iapply (proc_wp m ρ c (n := 1) (l := 50) (pay := (k0_pay16 (F := F))) 26 (at_ c 3) (by decide) (by decide) (off3 c) (dev27 c _) (by decide)
    (pr5_pay m ρ c _ _) (put26 m ρ c)) $$ [HO Hw Hs Hb Hd Ht]
  · isplitr; · iexact He
    isplitl [HO]; · iexact HO
    isplitl [Hw]; · iexact Hw
    isplitl [Hs]; · iexact Hs
    isplitl [Hb]; · iexact Hb
    isplitl [Hd]; · iexact Hd
    iexact Ht
  iintro ⟨HO, Hw, Hc⟩
  iapply Hk
  isplitl [HO]; · iexact HO
  isplitl [Hw Hback]; · iapply Hback; iexact Hw
  iexact Hc

/-- What the program computes for the device at distance 4 is the block of that device. -/
theorem pr4_pay (o : Dev nD) (h : S1x1024x512.ShapeCasts S1024x512) :
    shapeCast S1024x512 ((k0_pay17 (F := F)) (xAt m ρ c) (wAt m o)) h = blkV m ρ c o := by
  unfold blkV k0_pay4 k0_pay3 k0_pay2 k0_pay1 k0_pay17
  simp only [shapeCast_self, shapeCast_shapeCast]

/-- Distance 4: from the arrived halves the block is computed and sent to its device. -/
theorem pr4_wp {kt : P F} {Q : PUnit → sProp 𝕄} :
    iprop(env m ρ ∗ ow c 1 ∗ wks m ρ c ∗ (hold c (slotC G0 (at_ c 4)) fullShare (topW m (at_ c 4)) ∗ hold c (slotC G3 (at_ c 4)) fullShare (botW m (at_ c 4))) ∗ any (F := F) c (boxP ![3, 0, 0] inb_S7x1024x512_S1x1024x512_3_0_0)
        ∗ any (F := F) (at_ c 4) (rowsO c) ∗ tok (F := F) c 27)
      ⊢ iprop(((ow c 0 ∗ wks m ρ c ∗ cr (F := F) c 36) -∗ WP c kt Q) -∗ WP c (pr4 c kt) Q) := by
  unfold pr4
  simp only [bk0, bk1, bk2, bk3, bk4, ah0, ah1, ah2, ah3, bk5, bk6, bk7, rowsC_eq]
  iintro ⟨#He, HO, Hw, Hs, Hb, Hd, Ht⟩ Hk
  ihave Hw' := (wks_odd m ρ c) $$ Hw
  icases Hw' with ⟨Hw, Hback⟩
  iapply (proc_wp m ρ c (n := 0) (l := 51) (pay := (k0_pay17 (F := F))) 27 (at_ c 4) (by decide) (by decide) (off3 c) (dev28 c _) (by decide)
    (pr4_pay m ρ c _ _) (put27 m ρ c)) $$ [HO Hw Hs Hb Hd Ht]
  · isplitr; · iexact He
    isplitl [HO]; · iexact HO
    isplitl [Hw]; · iexact Hw
    isplitl [Hs]; · iexact Hs
    isplitl [Hb]; · iexact Hb
    isplitl [Hd]; · iexact Hd
    iexact Ht
  iintro ⟨HO, Hw, Hc⟩
  iapply Hk
  isplitl [HO]; · iexact HO
  isplitl [Hw Hback]; · iapply Hback; iexact Hw
  iexact Hc

end Cert.KernelIdeal.Prot
-- ==== Proof.KernelIdeal.Places.lean ====
/-
The launch hands a device its arrays whole; the line holds them piece by piece. Each array is cut into the pieces the line
names, and the pieces the line leaves are put together.
-/
module

public import proofs.«01_k».proof.Proof.KernelIdeal.Line
public import Idealize.ShloMosaic.Lib.Ring

@[expose] public section

set_option maxRecDepth 16384

noncomputable section

namespace Cert.KernelIdeal.Prot

open Cert.KernelIdeal Cert.KernelIdeal.Gen Cert.KernelIdeal.Ring Cert.KernelIdeal.Flat

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## Sets of places -/

/-- A block of a stack of blocks holds the places whose leading index is the block's. -/
theorem mem_lead {n p q o : ℕ} (h : ∀ a, (![o, 0, 0] : Fin 3 → ℕ) a + (⟨3, ![1, p, q]⟩ : Shape).size a ≤ (⟨3, ![n, p, q]⟩ : Shape).size a)
    (i : (⟨3, ![n, p, q]⟩ : Shape).Idx) :
    i ∈ (Rect.unit (s := ⟨3, ![n, p, q]⟩) ![o, 0, 0] (⟨3, ![1, p, q]⟩ : Shape).size h).set ↔ (i 0).val = o := by
  rw [Rect.mem_set_unit]
  constructor
  · intro h
    have h0 : o ≤ (i 0).val ∧ (i 0).val < o + 1 := h 0
    omega
  · intro h a
    match a with
    | ⟨0, _⟩ => show o ≤ (i 0).val ∧ (i 0).val < o + 1; omega
    | ⟨1, _⟩ => exact ⟨Nat.zero_le _, by show (i 1).val < 0 + p; have h1 : (i 1).val < p := (i 1).isLt; omega⟩
    | ⟨2, _⟩ => exact ⟨Nat.zero_le _, by show (i 2).val < 0 + q; have h1 : (i 2).val < q := (i 2).isLt; omega⟩

/-- Device `o`'s rows of the result. -/
theorem mem_rows (o : Dev nD) (i : S8192x512.Idx) :
    i ∈ (Rect.unit (s := S8192x512) ![1024 * o.val, 0] S1024x512.size (rows_inb o)).set ↔ (i 0).val / 1024 = o.val := by
  rw [Rect.mem_set_unit]
  constructor
  · intro h
    have h0 : 1024 * o.val ≤ (i 0).val ∧ (i 0).val < 1024 * o.val + 1024 := h 0
    omega
  · intro h a
    match a with
    | ⟨0, _⟩ => show 1024 * o.val ≤ (i 0).val ∧ (i 0).val < 1024 * o.val + 1024; omega
    | ⟨1, _⟩ => exact ⟨Nat.zero_le _, by show (i 1).val < 0 + 512; have h1 : (i 1).val < 512 := (i 1).isLt; omega⟩

/-! ## Cutting and joining -/

section Cut
variable {sp : Space} {sh : Shape} {B : Type} [Fintype B] [DecidableEq B]
variable (M : Memref sig .tc sp sh .f32) (R : B → Finset sh.Idx)

omit [FloatOps F] in
/-- Disjoint pieces of an array lie in disjoint sets of its entries. -/
theorem cut_disj (hd : ∀ b b', b ≠ b' → Disjoint (R b) (R b')) (b b' : B) (h : b ≠ b') : Disjoint ((R b).map M.view.emb) ((R b').map M.view.emb) :=
  (Finset.disjoint_map _).mpr (hd b b' h)
omit [FloatOps F] in
/-- Pieces that cover an array have all of its entries. -/
theorem cut_union (hc : ∀ x, ∃ b, x ∈ R b) : (Finset.univ.biUnion fun b => (R b).map M.view.emb) = M.view.set := by
  apply Finset.ext
  intro i
  rw [Finset.mem_biUnion]
  constructor
  · rintro ⟨b, -, h⟩
    obtain ⟨x, -, rfl⟩ := Finset.mem_map.mp h
    exact Finset.mem_map.mpr ⟨x, Finset.mem_univ x, rfl⟩
  · intro h
    obtain ⟨x, -, rfl⟩ := Finset.mem_map.mp h
    obtain ⟨b, hb⟩ := hc x
    exact ⟨b, Finset.mem_univ b, Finset.mem_map.mpr ⟨x, hb, rfl⟩⟩

/-- Entries that hold something hold some contents. -/
theorem any_of (S : Finset (Idx (M.view.loc (c : Thread nD τ)))) (f : Buf (Elt F) (M.view.loc (c : Thread nD τ))) :
    (M.view.loc (c : Thread nD τ) ↦[S]{fullShare} f : sProp 𝕄) ⊢ iprop(∃ f : Buf (Elt F) (M.view.loc (c : Thread nD τ)), M.view.loc (c : Thread nD τ) ↦[S]{fullShare} f) := by
  iintro H
  iexists f; iexact H

/-- A place held whole is held piece by piece, -/
theorem cut_open (hd : ∀ b b', b ≠ b' → Disjoint (R b) (R b')) (hc : ∀ x, ∃ b, x ∈ R b) :
    any (F := F) c M ⊢ bigSep Finset.univ fun b => iprop(∃ f : Buf (Elt F) (M.view.loc (c : Thread nD τ)), M.view.loc (c : Thread nD τ) ↦[(R b).map M.view.emb]{fullShare} f) := by
  unfold any
  refine exists_elim fun f => ?_
  rw [Idealize.ShloMosaic.Ring.pointsTo_sub_blocks _ (cut_disj M R hd) _ (cut_union M R hc)]
  exact bigSep_mono fun b _ => any_of c M _ f

/-- and held piece by piece is held whole. -/
theorem cut_close (hd : ∀ b b', b ≠ b' → Disjoint (R b) (R b')) (hc : ∀ x, ∃ b, x ∈ R b) :
    (bigSep Finset.univ fun b => iprop(∃ f : Buf (Elt F) (M.view.loc (c : Thread nD τ)), M.view.loc (c : Thread nD τ) ↦[(R b).map M.view.emb]{fullShare} f))
      ⊢ any (F := F) c M := by
  unfold any
  exact Idealize.ShloMosaic.Ring.pointsTo_sub_blocks_join_exists _ (cut_disj M R hd) _ (cut_union M R hc) (fun _ => default)

/-- Pieces of a place reading `g` each on its own part are the place, reading `g`. -/
theorem cut_join (hd : ∀ b b', b ≠ b' → Disjoint (R b) (R b')) (hc : ∀ x, ∃ b, x ∈ R b) (g : sh.Idx → Elt F .f32) :
    (bigSep Finset.univ fun b => iprop(∃ f : Buf (Elt F) (M.view.loc (c : Thread nD τ)), ⌜∀ x ∈ R b, M.view.read (Elt F) f x = g x⌝
        ∗ (M.view.loc (c : Thread nD τ) ↦[(R b).map M.view.emb]{fullShare} f)))
      ⊢ hold c M fullShare g := by
  have : Nonempty (Buf (Elt F) (M.view.loc (c : Thread nD τ))) := ⟨fun _ => default⟩
  refine (Idealize.SL.BI.bigSep_exists_pi Finset.univ _).trans ?_
  refine exists_elim fun fs => ?_
  unfold hold
  refine (bigSep_pure_sep Finset.univ (fun b => ∀ x ∈ R b, M.view.read (Elt F) (fs b) x = g x) _).trans ?_
  iintro ⟨%hp, H⟩
  ihave H' := (pointsTo_biUnion_join Finset.univ (fun b => (R b).map M.view.emb) fs (fun _ => default) (fun b _ b' _ h => cut_disj M R hd b b' h)) $$ H
  icases H' with ⟨%f, %hf, H⟩
  ihave H' := (Entails.of_eq (congrArg (fun S => (M.view.loc (c : Thread nD τ) ↦[S]{fullShare} f : sProp 𝕄)) (cut_union M R hc))) $$ H
  iexists f
  isplitl; · iexact H'
  ipureintro
  funext x
  obtain ⟨b, hb⟩ := hc x
  rw [← hp b (Finset.mem_univ b) x hb, View.read_apply, View.read_apply, hf b (Finset.mem_univ b) _ (Finset.mem_map.mpr ⟨x, hb, rfl⟩)]

end Cut

/-! ## The arrays -/

/-- The places a family of equal blocks of a stack names are apart, and are all the places. -/
theorem lead_disj {n p q : ℕ} {B : Type} (t : B → ℕ) (ht : Function.Injective t)
    (h : ∀ b, ∀ a, (![t b, 0, 0] : Fin 3 → ℕ) a + (⟨3, ![1, p, q]⟩ : Shape).size a ≤ (⟨3, ![n, p, q]⟩ : Shape).size a) (b b' : B) (hb : b ≠ b') :
    Disjoint (Rect.unit (s := ⟨3, ![n, p, q]⟩) ![t b, 0, 0] (⟨3, ![1, p, q]⟩ : Shape).size (h b)).set
      (Rect.unit (s := ⟨3, ![n, p, q]⟩) ![t b', 0, 0] (⟨3, ![1, p, q]⟩ : Shape).size (h b')).set :=
  Finset.disjoint_left.mpr fun i h1 h2 => hb (ht (((mem_lead (h b) i).mp h1).symm.trans ((mem_lead (h b') i).mp h2)))

/-- A travelling array is its eight slots. -/
theorem slots_open (M : Memref sig .tc .hbm S8x4096x512 .f32) : any (F := F) c M ⊢ bigSep Finset.univ fun o : Dev nD => any (F := F) c (slotC M o) := by
  refine (cut_open c M (fun o : Dev nD => (Rect.unit (s := S8x4096x512) ![o.val, 0, 0] S1x4096x512.size (slot_inb o)).set)
    (lead_disj (fun o : Dev nD => o.val) Fin.val_injective slot_inb) (fun x => ⟨x 0, (mem_lead (slot_inb (x 0)) x).mpr rfl⟩)).trans ?_
  refine bigSep_mono fun o _ => ?_
  have h : (slotC M o).view.set = (Rect.unit (s := S8x4096x512) ![o.val, 0, 0] S1x4096x512.size (slot_inb o)).set.map M.view.emb :=
    (View.set_reshape _ _).trans (View.set_slice _ _)
  rw [← h]
  exact Idealize.SL.BI.Entails.refl _

/-- Different devices' rows of the result are disjoint. -/
theorem rows_disj (o o' : Dev nD) (h : o ≠ o') : Disjoint (Rect.unit (s := S8192x512) ![1024 * o.val, 0] S1024x512.size (rows_inb o)).set
    (Rect.unit (s := S8192x512) ![1024 * o'.val, 0] S1024x512.size (rows_inb o')).set :=
  Finset.disjoint_left.mpr fun i h1 h2 => h (Fin.ext (((mem_rows o i).mp h1).symm.trans ((mem_rows o' i).mp h2)))
/-- Every entry of the result is in some device's rows. -/
theorem rows_all (i : S8192x512.Idx) : ∃ o : Dev nD, i ∈ (Rect.unit (s := S8192x512) ![1024 * o.val, 0] S1024x512.size (rows_inb o)).set :=
  ⟨⟨(i 0).val / 1024, by have h : (i 0).val < 8192 := (i 0).isLt; show _ < 8; omega⟩, (mem_rows _ i).mpr rfl⟩
/-- The result is its eight devices' rows. -/
theorem rows_open : any (F := F) c outM ⊢ bigSep Finset.univ fun o : Dev nD => any (F := F) c (rowsO o) := by
  refine (cut_open c outM (fun o : Dev nD => (Rect.unit (s := S8192x512) ![1024 * o.val, 0] S1024x512.size (rows_inb o)).set)
    rows_disj rows_all).trans ?_
  refine bigSep_mono fun o _ => ?_
  have h : (rowsO o).view.set = (Rect.unit (s := S8192x512) ![1024 * o.val, 0] S1024x512.size (rows_inb o)).set.map outM.view.emb :=
    View.set_slice _ _
  rw [← h]
  exact Idealize.SL.BI.Entails.refl _

/-- A box lies in the array of boxes. -/
theorem box_inb (b : Fin 7) : ∀ a, (![b.val, 0, 0] : Fin 3 → ℕ) a + S1x1024x512.size a ≤ S7x1024x512.size a := by
  revert b; decide +kernel
/-- The outgoing box is its seven places. -/
theorem box_open : any (F := F) c boxM ⊢ bigSep Finset.univ fun b : Fin 7 => any (F := F) c (boxP ![b.val, 0, 0] (box_inb b)) := by
  refine (cut_open c boxM (fun b : Fin 7 => (Rect.unit (s := S7x1024x512) ![b.val, 0, 0] S1x1024x512.size (box_inb b)).set)
    (lead_disj (fun o : Fin 7 => o.val) Fin.val_injective box_inb) (fun x => ⟨x 0, (mem_lead (box_inb (x 0)) x).mpr rfl⟩)).trans ?_
  refine bigSep_mono fun b _ => ?_
  have h : (boxP ![b.val, 0, 0] (box_inb b)).view.set = (Rect.unit (s := S7x1024x512) ![b.val, 0, 0] S1x1024x512.size (box_inb b)).set.map boxM.view.emb :=
    (View.set_reshape _ _).trans (View.set_slice _ _)
  rw [← h]
  exact Idealize.SL.BI.Entails.refl _

/-- A place lies in the send buffer. -/
theorem buf_inb (b : Fin 2) : ∀ a, (![b.val, 0, 0] : Fin 3 → ℕ) a + S1x1024x512.size a ≤ S2x1024x512.size a := by
  revert b; decide +kernel
/-- A place's entries, as a part of the send buffer's. -/
theorem buf_set (b : Fin 2) : (bufP ![b.val, 0, 0] (buf_inb b)).view.set
    = (Rect.unit (s := S2x1024x512) ![b.val, 0, 0] S1x1024x512.size (buf_inb b)).set.map bufM.view.emb :=
  (View.set_reshape _ _).trans (View.set_slice _ _)
/-- The two-place buffer is its two places, -/
theorem buf_open : any (F := F) c bufM ⊢ bigSep Finset.univ fun b : Fin 2 => any (F := F) c (bufP ![b.val, 0, 0] (buf_inb b)) := by
  refine (cut_open c bufM (fun b : Fin 2 => (Rect.unit (s := S2x1024x512) ![b.val, 0, 0] S1x1024x512.size (buf_inb b)).set)
    (lead_disj (fun o : Fin 2 => o.val) Fin.val_injective buf_inb) (fun x => ⟨x 0, (mem_lead (buf_inb (x 0)) x).mpr rfl⟩)).trans ?_
  refine bigSep_mono fun b _ => ?_
  rw [← buf_set]
  exact Idealize.SL.BI.Entails.refl _
/-- and back. -/
theorem buf_close : (bigSep Finset.univ fun b : Fin 2 => any (F := F) c (bufP ![b.val, 0, 0] (buf_inb b))) ⊢ any (F := F) c bufM := by
  refine .trans (bigSep_mono fun b _ => ?_) (cut_close c bufM (fun b : Fin 2 => (Rect.unit (s := S2x1024x512) ![b.val, 0, 0] S1x1024x512.size (buf_inb b)).set)
    (lead_disj (fun o : Fin 2 => o.val) Fin.val_injective buf_inb) (fun x => ⟨x 0, (mem_lead (buf_inb (x 0)) x).mpr rfl⟩))
  rw [← buf_set]
  exact Idealize.SL.BI.Entails.refl _

/-! ## The result -/

/-- Device `c`'s result: at row `r`, device `r / 1024`'s block by `c`'s columns. -/
def OUT : S8192x512.Idx → Elt F .f32 := fun i =>
  blkV m ρ ⟨(i 0).val / 1024, by have h : (i 0).val < 8192 := (i 0).isLt; show _ < 8; omega⟩ c
    (fun a => match a with
      | ⟨0, _⟩ => ⟨(i 0).val % 1024, Nat.mod_lt _ (by decide)⟩
      | ⟨1, _⟩ => i 1)

/-- A block read out of the result. -/
theorem OUT_rows (o : Dev nD) (y : S1024x512.Idx) :
    OUT m ρ c ((Rect.unit (s := S8192x512) ![1024 * o.val, 0] S1024x512.size (rows_inb o)).emb y) = blkV m ρ o c y := by
  have hy : (y 0).val < 1024 := (y 0).isLt
  have e0 : (((Rect.unit (s := S8192x512) ![1024 * o.val, 0] S1024x512.size (rows_inb o)).emb y) 0).val = 1024 * o.val + (y 0).val := by
    show 1024 * o.val + 1 * (y 0).val = _; omega
  have e1 : (((Rect.unit (s := S8192x512) ![1024 * o.val, 0] S1024x512.size (rows_inb o)).emb y) 1).val = (y 1).val := by
    show 0 + 1 * (y 1).val = _; omega
  unfold OUT
  congr 1
  · apply Fin.ext; show _ / 1024 = o.val; rw [e0]; omega
  · funext a
    apply Fin.ext
    match a with
    | ⟨0, _⟩ => show _ % 1024 = (y 0).val; rw [e0]; omega
    | ⟨1, _⟩ => exact e1

/-- A device's rows that hold its block agree with the result there. -/
theorem rows_piece (o : Dev nD) : hold c (rowsO o) fullShare (blkV m ρ o c) ⊢
    iprop(∃ f : Buf (Elt F) (outM.view.loc (c : Thread nD τ)),
      ⌜∀ x ∈ (Rect.unit (s := S8192x512) ![1024 * o.val, 0] S1024x512.size (rows_inb o)).set, outM.view.read (Elt F) f x = OUT m ρ c x⌝
      ∗ (outM.view.loc (c : Thread nD τ) ↦[(rowsO o).view.set]{fullShare} f)) := by
  unfold hold
  iintro ⟨%f, H, %hf⟩
  iexists f
  isplitr
  · ipureintro
    intro x hx
    rw [← Rect.map_emb_univ] at hx
    obtain ⟨y, -, rfl⟩ := Finset.mem_map.mp hx
    rw [OUT_rows, ← hf]
    rfl
  · iexact H

/-- The eight blocks are the result. -/
theorem rows_close : (bigSep Finset.univ fun o : Dev nD => hold c (rowsO o) fullShare (blkV m ρ o c)) ⊢ hold c outM fullShare (OUT m ρ c) := by
  refine .trans (bigSep_mono fun o _ => ?_) (cut_join c outM (fun o : Dev nD => (Rect.unit (s := S8192x512) ![1024 * o.val, 0] S1024x512.size (rows_inb o)).set)
    rows_disj rows_all (OUT m ρ c))
  have h : (rowsO o).view.set = (Rect.unit (s := S8192x512) ![1024 * o.val, 0] S1024x512.size (rows_inb o)).set.map outM.view.emb :=
    View.set_slice _ _
  rw [← h]
  exact rows_piece m ρ c o

/-! ## The columns -/

/-- The upper halves of the columns and of the stage have the same entries. -/
theorem wtop_set : (topH wM).view.set = (topH stM).view.set := (View.set_slice_whole _ _).trans (View.set_slice_whole _ _).symm
/-- So have the lower halves. -/
theorem wbot_set : (botH wM).view.set = (botH stM).view.set := (View.set_slice_whole _ _).trans (View.set_slice_whole _ _).symm

/-- The columns at a share are their halves. -/
theorem w_halves (q : PosShare TreeShare) :
    ((c : Thread nD τ).loc main_arg1 ↦{q} wAt m c : sProp 𝕄) ⊢ iprop(hold c (topH wM) q (topW m c) ∗ hold c (botH wM) q (botW m c)) := by
  have h : Finset.univ \ (topH wM).view.set = (botH wM).view.set := by
    rw [wtop_set, wbot_set]
    apply Finset.ext; intro i
    rw [Finset.mem_sdiff, mem_top, mem_bot]
    constructor
    · rintro ⟨-, h⟩; omega
    · intro h; exact ⟨Finset.mem_univ _, by omega⟩
  refine ((pointsTo_split_subset (Finset.subset_univ (topH wM).view.set)).mp).trans ?_
  rw [h]
  unfold hold
  iintro ⟨H1, H2⟩
  isplitl [H1]
  · iexists _; isplitl; · iexact H1
    ipureintro; rfl
  · iexists _; isplitl; · iexact H2
    ipureintro; rfl

/-- The columns: a share kept aside, one for each direction, one for the own product. -/
theorem w_open :
    ((c : Thread nD τ).loc main_arg1 ↦{fullShare} wAt m c : sProp 𝕄) ⊢
      iprop(((c : Thread nD τ).loc main_arg1 ↦{fullShare.left} wAt m c)
        ∗ (hold c (topH wM) w1 (topW m (at_ c 8)) ∗ hold c (botH wM) w1 (botW m (at_ c 8)) ∗ hold c (topH wM) w2 (topW m (at_ c 0)) ∗ hold c (botH wM) w2 (botW m (at_ c 0)))
        ∗ (hold c (topH wM) w3 (topW m c) ∗ hold c (botH wM) w3 (botW m c))) := by
  rw [at_eight, at_zero]
  iintro H
  ihave H := (pointsTo_share (PosShare.mem_left_op_right fullShare)).mp $$ H
  icases H with ⟨H0, H⟩
  ihave H := (pointsTo_share (PosShare.mem_left_op_right fullShare.right)).mp $$ H
  icases H with ⟨H1, H⟩
  ihave H := (pointsTo_share (PosShare.mem_left_op_right fullShare.right.right)).mp $$ H
  icases H with ⟨H2, H3⟩
  ihave H1 := (w_halves m c w1) $$ H1
  ihave H2 := (w_halves m c w2) $$ H2
  ihave H3 := (w_halves m c w3) $$ H3
  isplitl [H0]; · iexact H0
  isplitl [H1 H2]
  · icases H1 with ⟨A, B⟩
    icases H2 with ⟨C, D⟩
    isplitl [A]; · iexact A
    isplitl [B]; · iexact B
    isplitl [C]; · iexact C
    iexact D
  iexact H3
-- ==== Proof.KernelIdeal.Body.lean ====
/-
The whole line on one device: from what the launch hands it to its result.
-/
module

public import proofs.«01_k».proof.Proof.KernelIdeal.Places

@[expose] public section

set_option maxRecDepth 16384

noncomputable section

namespace Cert.KernelIdeal.Prot

open Cert.KernelIdeal Cert.KernelIdeal.Gen Cert.KernelIdeal.Ring Cert.KernelIdeal.Flat

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What a device starts with, listed -/

/-- The duties payment `k` of device `c` meets. -/
def tokA (k : Fin 28) : sProp 𝕄 :=
  if k.val < 7 then dutyTok ER ((tgt k c : Thread nD τ), .reg barS) 0 c else tok (F := F) c k
/-- The position of a cell's rounds. -/
def posA (i : Fin 52) : sProp 𝕄 := if i = 0 then atPos ER ((c : Thread nD τ), .reg barS) 0 ∅ 0 else pos (F := F) c i
/-- The semaphores a device receives copies on. -/
def recvs : Finset (Fin 52) := [5, 13, 21, 29, 6, 14, 22, 30, 7, 15, 23, 31, 8, 32, 40, 46, 41, 45, 42, 44, 43].toFinset

/-- A device's tokens, listed in the order of its line. -/
theorem toks_open : (bigSep Finset.univ fun k : Fin 28 => tokA (F := F) c k) ⊢
    iprop(bigSepL [0, 1, 2, 3, 4, 5, 6] (fun k : Fin 28 => dutyTok ER ((tgt k c : Thread nD τ), .reg barS) 0 c)
      ∗ bigSepL [7, 8, 9, 10] (tok (F := F) c) ∗ bigSepL [11, 12, 13, 14] (tok (F := F) c) ∗ bigSepL [17, 18, 19, 20] (tok (F := F) c)
      ∗ bigSepL [23, 24] (tok (F := F) c)
      ∗ tok (F := F) c 15 ∗ tok (F := F) c 16 ∗ tok (F := F) c 21 ∗ tok (F := F) c 22 ∗ tok (F := F) c 25 ∗ tok (F := F) c 26 ∗ tok (F := F) c 27) := by
  rw [bigSep_univ_eq_bigSepL (I := Fin 28) ([0, 1, 2, 3, 4, 5, 6] ++ ([7, 8, 9, 10] ++ ([11, 12, 13, 14] ++ ([17, 18, 19, 20] ++ ([23, 24] ++ [15, 16, 21, 22, 25, 26, 27]))))) (by decide) (by decide)]
  simp only [bigSepL_append]
  exact .rfl

/-- Its places in the cells' rounds, listed in the order of its line. -/
theorem poss_open : (bigSep Finset.univ fun i : Fin 52 => posA (F := F) c i) ⊢
    iprop(atPos ER ((c : Thread nD τ), .reg barS) 0 ∅ 0
      ∗ bigSepL [5, 13, 21, 29] (pos (F := F) c) ∗ bigSepL [6, 14, 22, 30] (pos (F := F) c) ∗ bigSepL [7, 15, 23, 31] (pos (F := F) c) ∗ bigSepL [8, 32] (pos (F := F) c)
      ∗ bigSepL [1, 9, 17, 25, 2, 10, 18, 26, 3, 11, 19, 27, 4, 28] (pos (F := F) c)
      ∗ bigSepL [33, 39, 34, 38, 35, 37, 36] (pos (F := F) c) ∗ bigSepL [40, 46, 41, 45, 42, 44, 43] (pos (F := F) c)
      ∗ bigSepL [12, 16, 20, 24, 47, 48, 49, 50, 51] (pos (F := F) c)) := by
  rw [bigSep_univ_eq_bigSepL (I := Fin 52) (0 :: ([5, 13, 21, 29] ++ ([6, 14, 22, 30] ++ ([7, 15, 23, 31] ++ ([8, 32] ++ ([1, 9, 17, 25, 2, 10, 18, 26, 3, 11, 19, 27, 4, 28]
    ++ ([33, 39, 34, 38, 35, 37, 36] ++ ([40, 46, 41, 45, 42, 44, 43] ++ [12, 16, 20, 24, 47, 48, 49, 50, 51])))))))) (by decide) (by decide)]
  rw [bl_cons]
  simp only [bigSepL_append]
  exact .rfl

/-- Its credits, listed in the order of its line. -/
theorem crs_open : (bigSep recvs fun i : Fin 52 => cr (F := F) c i) ⊢
    iprop(bigSepL [5, 13, 21, 29] (cr (F := F) c) ∗ bigSepL [6, 14, 22, 30] (cr (F := F) c) ∗ bigSepL [7, 15, 23, 31] (cr (F := F) c) ∗ bigSepL [8, 32] (cr (F := F) c)
      ∗ bigSepL [40, 46, 41, 45, 42, 44, 43] (cr (F := F) c)) := by
  rw [bigSep_eq_bigSepL_of_eq ([5, 13, 21, 29] ++ ([6, 14, 22, 30] ++ ([7, 15, 23, 31] ++ ([8, 32] ++ [40, 46, 41, 45, 42, 44, 43])))) (by rfl) (by decide)]
  simp only [bigSepL_append]
  exact .rfl

omit [FloatOps F] in
/-- The eight devices, by their distance from one of them. -/
theorem dev_list (Φ : Dev nD → sProp 𝕄) :
    bigSep Finset.univ Φ = bigSepL [at_ c 7, at_ c 6, at_ c 5, at_ c 4, at_ c 1, at_ c 2, at_ c 3, at_ c 0] Φ :=
  bigSep_univ_eq_bigSepL _ (by revert c; decide) (by revert c; decide) Φ
omit [FloatOps F] in
/-- The seven others, in the order in which the result is sent. -/
theorem other_list (Φ : Dev nD → sProp 𝕄) :
    bigSep (Finset.univ.erase c) Φ = bigSepL [at_ c 7, at_ c 1, at_ c 6, at_ c 2, at_ c 5, at_ c 3, at_ c 4] Φ :=
  bigSep_eq_bigSepL_of_eq _ (by revert c; decide) (by revert c; decide) Φ
omit [FloatOps F] in
/-- The seven others, in the order in which they are signalled. -/
theorem tgt_list (Φ : Dev nD → sProp 𝕄) :
    bigSep (Finset.univ.erase c) Φ = bigSepL [0, 1, 2, 3, 4, 5, 6] (fun k : Fin 28 => Φ (tgt k c)) := by
  rw [bigSep_eq_bigSepL_of_eq [tgt 0 c, tgt 1 c, tgt 2 c, tgt 3 c, tgt 4 c, tgt 5 c, tgt 6 c] (by revert c; decide +kernel) (by revert c; decide +kernel) Φ]
  simp only [bl_cons, bl_nil]

/-- Nothing beside an assertion is the assertion. -/
theorem sep_emp_eq (P : sProp 𝕄) : iprop(P ∗ emp) = P := equiv_iff.mp sep_emp

/-! ## The barrier's payloads -/

omit [FloatOps F] in
/-- Of holdings at one device only, the one. -/
theorem only_at {s : Finset (Dev nD)} {i : Dev nD} (h : i ∈ s) (Φ : Dev nD → sProp 𝕄) :
    bigSep s (fun j => if j = i then Φ j else iprop(emp)) = Φ i := by
  refine (BI.bigSep_filter s (· = i) Φ).symm.trans ?_
  rw [Finset.filter_eq', if_pos h, BI.bigSep_singleton]

/-- What a device gives its left and its right neighbour: the slots they send into. -/
def giveL : sProp 𝕄 :=
  iprop(any (F := F) c (slotC G0 (at_ c 7)) ∗ any (F := F) c (slotC G1 (at_ c 7)) ∗ any (F := F) c (slotC G0 (at_ c 6)) ∗ any (F := F) c (slotC G1 (at_ c 6))
    ∗ any (F := F) c (slotC G0 (at_ c 5)) ∗ any (F := F) c (slotC G1 (at_ c 5)) ∗ any (F := F) c (slotC G0 (at_ c 4)))
def giveR : sProp 𝕄 :=
  iprop(any (F := F) c (slotC G2 (at_ c 1)) ∗ any (F := F) c (slotC G3 (at_ c 1)) ∗ any (F := F) c (slotC G2 (at_ c 2)) ∗ any (F := F) c (slotC G3 (at_ c 2))
    ∗ any (F := F) c (slotC G2 (at_ c 3)) ∗ any (F := F) c (slotC G3 (at_ c 3)) ∗ any (F := F) c (slotC G3 (at_ c 4)))
/-- What is given to the left are the slots that the left neighbour fills. -/
theorem giveL_eq : giveL (F := F) c = rightSlots (left c) := by
  unfold giveL rightSlots
  rw [back_eq c 7 8 7 rfl, back_eq c 7 7 6 rfl, back_eq c 7 6 5 rfl, back_eq c 7 5 4 rfl, show right (left c) = c from (back_eq c 7 1 0 rfl).trans (at_zero c)]
/-- What is given to the right are the slots that the right neighbour fills. -/
theorem giveR_eq : giveR (F := F) c = leftSlots (right c) := by
  unfold giveR leftSlots
  rw [back_eq c 1 0 1 rfl, back_eq c 1 1 2 rfl, back_eq c 1 2 3 rfl, back_eq c 1 3 4 rfl, show left (right c) = c from (back_eq c 1 7 0 rfl).trans (at_zero c)]

/-- A device's payments to the barriers of the others. -/
theorem bar_close : iprop(bigSep (Finset.univ.erase c) (fun j => any (F := F) c (rowsO j)) ∗ giveL (F := F) c ∗ giveR (F := F) c)
    ⊢ bigSepL [0, 1, 2, 3, 4, 5, 6] (fun k : Fin 28 => barPay (F := F) (tgt k c) c) := by
  rw [← tgt_list c (fun j => barPay (F := F) j c)]
  have h1 : ∀ c j : Dev nD, (c = right j) ↔ (j = left c) := by decide
  have h2 : ∀ c j : Dev nD, (c = left j) ↔ (j = right c) := by decide
  unfold barPay
  rw [bigSep_sep', bigSep_sep']
  rw [show (fun j : Dev nD => if c = right j then rightSlots (F := F) j else iprop(emp)) = fun j => if j = left c then rightSlots (F := F) j else iprop(emp) from funext fun j => if_congr (h1 c j) rfl rfl,
    show (fun j : Dev nD => if c = left j then leftSlots (F := F) j else iprop(emp)) = fun j => if j = right c then leftSlots (F := F) j else iprop(emp) from funext fun j => if_congr (h2 c j) rfl rfl]
  rw [only_at (show left c ∈ Finset.univ.erase c by revert c; decide) (fun j => rightSlots (F := F) j), only_at (show right c ∈ Finset.univ.erase c by revert c; decide) (fun j => leftSlots (F := F) j),
    giveL_eq, giveR_eq]

/-- What the others pay to a device's barrier. -/
theorem bar_open : bigSep (Finset.univ.erase c) (fun j => barPay (F := F) c j)
    ⊢ iprop(bigSepL [at_ c 7, at_ c 1, at_ c 6, at_ c 2, at_ c 5, at_ c 3, at_ c 4] (fun j => any (F := F) j (rowsO c)) ∗ rightSlots (F := F) c ∗ leftSlots (F := F) c) := by
  rw [← other_list c (fun j => any (F := F) j (rowsO c))]
  unfold barPay
  rw [bigSep_sep', bigSep_sep', only_at (show right c ∈ Finset.univ.erase c by revert c; decide) (fun _ => rightSlots (F := F) c), only_at (show left c ∈ Finset.univ.erase c by revert c; decide) (fun _ => leftSlots (F := F) c)]

/-- The slots of the travelling arrays the neighbours send into. -/
theorem slots_give : iprop(any (F := F) c G0 ∗ any (F := F) c G1 ∗ any (F := F) c G2 ∗ any (F := F) c G3) ⊢ iprop(giveL (F := F) c ∗ giveR (F := F) c) := by
  unfold giveL giveR
  iintro ⟨H0, H1, H2, H3⟩
  ihave H0 := ((slots_open c G0).trans (Entails.of_eq (dev_list c _))) $$ H0
  ihave H1 := ((slots_open c G1).trans (Entails.of_eq (dev_list c _))) $$ H1
  ihave H2 := ((slots_open c G2).trans (Entails.of_eq (dev_list c _))) $$ H2
  ihave H3 := ((slots_open c G3).trans (Entails.of_eq (dev_list c _))) $$ H3
  simp only [bl_cons, bl_nil]
  icases H0 with ⟨A7, A6, A5, A4, -⟩
  icases H1 with ⟨B7, B6, B5, -⟩
  icases H2 with ⟨-, -, -, -, C1, C2, C3, -⟩
  icases H3 with ⟨-, -, -, D4, D1, D2, D3, -⟩
  isplitl [A7 B7 A6 B6 A5 B5 A4]
  · isplitl [A7]; · iexact A7
    isplitl [B7]; · iexact B7
    isplitl [A6]; · iexact A6
    isplitl [B6]; · iexact B6
    isplitl [A5]; · iexact A5
    isplitl [B5]; · iexact B5
    iexact A4
  · isplitl [C1]; · iexact C1
    isplitl [D1]; · iexact D1
    isplitl [C2]; · iexact C2
    isplitl [D2]; · iexact D2
    isplitl [C3]; · iexact C3
    isplitl [D3]; · iexact D3
    iexact D4

/-! ## Semaphores no remote copy counts on -/

/-- Such a semaphore's cell is closed at once. -/
theorem idle_wp {kt : P F} {Q : PUnit → sProp 𝕄} {i : Fin 52} (hi : i ∉ used ∧ i ≠ 0) :
    iprop(env m ρ ∗ pos (F := F) c i) ⊢ iprop((semVal ((c : Thread nD τ), .dma i) 0 -∗ WP c kt Q) -∗ WP c kt Q) := by
  unfold pos
  iintro ⟨#He, Hat⟩ Hk
  ihave #H1 := (env_cell m ρ c i) $$ He
  icases H1 with ⟨%κ, HI, Hr⟩
  simp only [cell, csem_pos hi.2]
  imod (Rounds.cell_close ER (Rd m ρ) (Set.mem_univ κ) (fun h => h) (R := 0) (fun r _ => duties_unused m ρ c hi.1 r)) $$ [Hat] with Hv
  · isplitr; · iexact HI
    iexact Hat
  iapply Hk
  iexact Hv

/-- Two disjoint sets of counters at zero make their union. -/
theorem zs_join {S T : Finset (Fin 52)} (h : Disjoint S T) : iprop(zs (F := F) c S ∗ zs (F := F) c T) ⊢ zs (F := F) c (S ∪ T) := by
  unfold zs; rw [BI.bigSep_union h]; exact .rfl

/-- The results' arrivals, in the order of the last waits, with their contents. -/
theorem out_list : bigSepL [40, 46, 41, 45, 42, 44, 43] (dmaPay m ρ c) = iprop(hold c (rowsO (at_ c 1)) fullShare (blkV m ρ (at_ c 1) c) ∗ hold c (rowsO (at_ c 7)) fullShare (blkV m ρ (at_ c 7) c) ∗ hold c (rowsO (at_ c 2)) fullShare (blkV m ρ (at_ c 2) c) ∗ hold c (rowsO (at_ c 6)) fullShare (blkV m ρ (at_ c 6) c) ∗ hold c (rowsO (at_ c 3)) fullShare (blkV m ρ (at_ c 3) c) ∗ hold c (rowsO (at_ c 5)) fullShare (blkV m ρ (at_ c 5) c) ∗ hold c (rowsO (at_ c 4)) fullShare (blkV m ρ (at_ c 4) c)) := by
  simp only [bl_cons, bl_nil, sep_emp_eq]
  rfl
/-- The result from its blocks. -/
theorem out_close : iprop(hold c (rowsO c) fullShare (blkV m ρ c c) ∗ bigSepL [40, 46, 41, 45, 42, 44, 43] (dmaPay m ρ c)) ⊢ hold c outM fullShare (OUT m ρ c) := by
  refine .trans ?_ (rows_close m ρ c)
  rw [dev_list c, at_zero]
  rw [out_list]
  simp only [bl_cons, bl_nil]
  iintro ⟨H0, H1, H7, H2, H6, H3, H5, H4⟩
  isplitl [H7]; · iexact H7
  isplitl [H6]; · iexact H6
  isplitl [H5]; · iexact H5
  isplitl [H4]; · iexact H4
  isplitl [H1]; · iexact H1
  isplitl [H2]; · iexact H2
  isplitl [H3]; · iexact H3
  isplitl [H0]; · iexact H0
  iempintro

/-! ## The line -/

/-- What a device starts with. -/
def start : sProp 𝕄 :=
  iprop(ow (F := F) c 28 ∗ (bigSep Finset.univ fun k : Fin 28 => tokA (F := F) c k) ∗ (bigSep Finset.univ fun i : Fin 52 => posA (F := F) c i)
    ∗ cred (tallyAt ((c : Thread nD τ), .reg barS) () 7) ∗ (bigSep recvs fun i : Fin 52 => cr (F := F) c i)
    ∗ ((c : Thread nD τ).loc main_arg1 ↦{fullShare} wAt m c)
    ∗ any (F := F) c outM ∗ (any (F := F) c G0 ∗ any (F := F) c G1 ∗ any (F := F) c G2 ∗ any (F := F) c G3) ∗ any (F := F) c boxM
    ∗ hold c xM fullShare (xAt m ρ c) ∗ any (F := F) c stM ∗ any (F := F) c ownM ∗ any (F := F) c bufM)
/-- What it ends with. -/
def final : sProp 𝕄 :=
  iprop(ow (F := F) c 0 ∗ hold c outM fullShare (OUT m ρ c) ∗ ((c : Thread nD τ).loc main_arg1 ↦{fullShare.left} wAt m c)
    ∗ hold c xM fullShare (xAt m ρ c) ∗ any (F := F) c stM ∗ any (F := F) c ownM ∗ any (F := F) c bufM
    ∗ semVal ((c : Thread nD τ), .reg barS) 0 ∗ zs (F := F) c (Finset.univ.erase 0))

/-- A signal never goes to the device itself. -/
theorem others (k : Fin 28) : k.val < 7 → c ≠ tgt k c := by revert k c; decide +kernel

/-- The rows of a result are the device's own and those of the seven others. -/
theorem rows_other : (bigSep Finset.univ fun o : Dev nD => any (F := F) c (rowsO o))
    = iprop(any (F := F) c (rowsO c) ∗ bigSep (Finset.univ.erase c) fun o => any (F := F) c (rowsO o)) :=
  BI.bigSep_erase (Finset.mem_univ c)
/-- The seven boxes, written out. -/
theorem bl_box : bigSepL [0, 1, 2, 3, 4, 5, 6] (fun b : Fin 7 => any (F := F) c (boxP ![b.val, 0, 0] (box_inb b)))
    = iprop(any (F := F) c (boxP ![0, 0, 0] inb_S7x1024x512_S1x1024x512_0_0_0) ∗ any (F := F) c (boxP ![1, 0, 0] inb_S7x1024x512_S1x1024x512_1_0_0) ∗ any (F := F) c (boxP ![2, 0, 0] inb_S7x1024x512_S1x1024x512_2_0_0) ∗ any (F := F) c (boxP ![3, 0, 0] inb_S7x1024x512_S1x1024x512_3_0_0) ∗ any (F := F) c (boxP ![4, 0, 0] inb_S7x1024x512_S1x1024x512_4_0_0) ∗ any (F := F) c (boxP ![5, 0, 0] inb_S7x1024x512_S1x1024x512_5_0_0) ∗ any (F := F) c (boxP ![6, 0, 0] inb_S7x1024x512_S1x1024x512_6_0_0)) := by
  simp only [bl_cons, bl_nil, sep_emp_eq]
  rfl
/-- The two places of the send buffer, written out. -/
theorem bl_buf : bigSepL [0, 1] (fun b : Fin 2 => any (F := F) c (bufP ![b.val, 0, 0] (buf_inb b))) = iprop(any (F := F) c buf0 ∗ any (F := F) c buf1) := by
  simp only [bl_cons, bl_nil, sep_emp_eq]
  rfl
/-- The two places are the whole send buffer. -/
theorem buf_back : iprop(any (F := F) c buf0 ∗ any (F := F) c buf1) ⊢ any (F := F) c bufM := by
  rw [← bl_buf]
  refine .trans ?_ (buf_close c)
  rw [bigSep_univ_eq_bigSepL (I := Fin 2) [0, 1] (by decide) (by decide)]
/-- The places in the rounds that no wait uses, written out. -/
theorem bl_idle : bigSepL [12, 16, 20, 24, 47, 48, 49, 50, 51] (pos (F := F) c) = iprop(pos (F := F) c 12 ∗ pos (F := F) c 16 ∗ pos (F := F) c 20 ∗ pos (F := F) c 24 ∗ pos (F := F) c 47 ∗ pos (F := F) c 48 ∗ pos (F := F) c 49 ∗ pos (F := F) c 50 ∗ pos (F := F) c 51) := by
  simp only [bl_cons, bl_nil, sep_emp_eq]
/-- The seven others' rows for this device, written out. -/
theorem bl_rows : bigSepL [at_ c 7, at_ c 1, at_ c 6, at_ c 2, at_ c 5, at_ c 3, at_ c 4] (fun j => any (F := F) j (rowsO c)) = iprop(any (F := F) (at_ c 7) (rowsO c) ∗ any (F := F) (at_ c 1) (rowsO c) ∗ any (F := F) (at_ c 6) (rowsO c) ∗ any (F := F) (at_ c 2) (rowsO c) ∗ any (F := F) (at_ c 5) (rowsO c) ∗ any (F := F) (at_ c 3) (rowsO c) ∗ any (F := F) (at_ c 4) (rowsO c)) := by
  simp only [bl_cons, bl_nil, sep_emp_eq]
/-- The credits of the hops' senders, in the order of the last waits. -/
theorem cr_drain : iprop(bigSepL [1, 9, 17, 25] (cr (F := F) c) ∗ bigSepL [2, 10, 18, 26] (cr (F := F) c) ∗ bigSepL [3, 11, 19, 27] (cr (F := F) c) ∗ bigSepL [4, 28] (cr (F := F) c))
    ⊢ bigSepL [1, 9, 17, 25, 2, 10, 18, 26, 3, 11, 19, 27, 4, 28] (cr (F := F) c) := by
  rw [← bigSepL_append, ← bigSepL_append, ← bigSepL_append]
  exact Entails.of_eq rfl
/-- The credits of the results' senders, in the order of the last waits. -/
theorem cr_drainB : iprop(cr (F := F) c 33 ∗ cr (F := F) c 39 ∗ cr (F := F) c 34 ∗ cr (F := F) c 38 ∗ cr (F := F) c 35 ∗ cr (F := F) c 37 ∗ cr (F := F) c 36) ⊢ bigSepL [33, 39, 34, 38, 35, 37, 36] (cr (F := F) c) := by
  simp only [bl_cons, bl_nil, sep_emp_eq]
  exact .rfl
/-- The pieces that the products share, put together. -/
theorem wks_make : iprop(hold c xM fullShare (xAt m ρ c) ∗ any (F := F) c stM ∗ any (F := F) c buf0 ∗ any (F := F) c buf1
    ∗ semVal ((c : Thread nD τ), .dma 47) 0 ∗ semVal ((c : Thread nD τ), .dma 48) 0 ∗ semVal ((c : Thread nD τ), .dma 50) 0 ∗ semVal ((c : Thread nD τ), .dma 51) 0)
    ⊢ wks m ρ c := by unfold wks; exact .rfl
/-- The end of the line keeps what holds there. -/
theorem fin_wp {R : sProp 𝕄} : R ⊢ WP c (.ret ⟨⟩) (fun _ => R) := by
  unfold WP
  rw [wp_ret]
  iintro H
  imodintro
  iexact H

/-- The counters closed along the line and the idle ones are all of them. -/
theorem zset : (((((((((insert 29 (insert 21 (insert 13 (insert 5 ∅)))) ∪ (insert 30 (insert 22 (insert 14 (insert 6 ∅))))) ∪ (insert 31 (insert 23 (insert 15 (insert 7 ∅))))) ∪ (insert 32 (insert 8 ∅))) ∪ (insert 28 (insert 4 (insert 27 (insert 19 (insert 11 (insert 3 (insert 26 (insert 18 (insert 10 (insert 2 (insert 25 (insert 17 (insert 9 (insert 1 ∅))))))))))))))) ∪ (insert 36 (insert 37 (insert 35 (insert 38 (insert 34 (insert 39 (insert 33 ∅)))))))) ∪ (insert 43 (insert 44 (insert 42 (insert 45 (insert 41 (insert 46 (insert 40 ∅)))))))) ∪ [12, 16, 20, 24, 47, 48, 49, 50, 51].toFinset) : Finset (Fin 52)) = Finset.univ.erase 0 := by decide +kernel
/-- The idle counters at zero, as a set. -/
theorem zs_idle : iprop(semVal ((c : Thread nD τ), .dma 12) 0 ∗ semVal ((c : Thread nD τ), .dma 16) 0 ∗ semVal ((c : Thread nD τ), .dma 20) 0 ∗ semVal ((c : Thread nD τ), .dma 24) 0 ∗ semVal ((c : Thread nD τ), .dma 47) 0 ∗ semVal ((c : Thread nD τ), .dma 48) 0 ∗ semVal ((c : Thread nD τ), .dma 49) 0 ∗ semVal ((c : Thread nD τ), .dma 50) 0 ∗ semVal ((c : Thread nD τ), .dma 51) 0) ⊢ zs (F := F) c [12, 16, 20, 24, 47, 48, 49, 50, 51].toFinset := by
  unfold zs
  rw [bigSep_eq_bigSepL_of_eq [12, 16, 20, 24, 47, 48, 49, 50, 51] rfl (by decide)]
  simp only [bl_cons, bl_nil, sep_emp_eq]
  exact .rfl
/-- Counters of disjoint sets of semaphores, together. -/
theorem zs_eight {S0 S1 S2 S3 S4 S5 S6 S7 S : Finset (Fin 52)} (h1 : Disjoint S0 S1) (h2 : Disjoint (S0 ∪ S1) S2) (h3 : Disjoint (S0 ∪ S1 ∪ S2) S3)
    (h4 : Disjoint (S0 ∪ S1 ∪ S2 ∪ S3) S4) (h5 : Disjoint (S0 ∪ S1 ∪ S2 ∪ S3 ∪ S4) S5) (h6 : Disjoint (S0 ∪ S1 ∪ S2 ∪ S3 ∪ S4 ∪ S5) S6)
    (h7 : Disjoint (S0 ∪ S1 ∪ S2 ∪ S3 ∪ S4 ∪ S5 ∪ S6) S7) (hS : S0 ∪ S1 ∪ S2 ∪ S3 ∪ S4 ∪ S5 ∪ S6 ∪ S7 = S) :
    iprop(zs (F := F) c S0 ∗ zs (F := F) c S1 ∗ zs (F := F) c S2 ∗ zs (F := F) c S3 ∗ zs (F := F) c S4 ∗ zs (F := F) c S5 ∗ zs (F := F) c S6 ∗ zs (F := F) c S7) ⊢ zs (F := F) c S := by
  subst hS
  iintro ⟨Y0, Y1, Y2, Y3, Y4, Y5, Y6, Y7⟩
  ihave Y0 := (zs_join c h1) $$ [Y0 Y1]
  · isplitl [Y0]; · iexact Y0
    iexact Y1
  ihave Y0 := (zs_join c h2) $$ [Y0 Y2]
  · isplitl [Y0]; · iexact Y0
    iexact Y2
  ihave Y0 := (zs_join c h3) $$ [Y0 Y3]
  · isplitl [Y0]; · iexact Y0
    iexact Y3
  ihave Y0 := (zs_join c h4) $$ [Y0 Y4]
  · isplitl [Y0]; · iexact Y0
    iexact Y4
  ihave Y0 := (zs_join c h5) $$ [Y0 Y5]
  · isplitl [Y0]; · iexact Y0
    iexact Y5
  ihave Y0 := (zs_join c h6) $$ [Y0 Y6]
  · isplitl [Y0]; · iexact Y0
    iexact Y6
  ihave Y0 := (zs_join c h7) $$ [Y0 Y7]
  · isplitl [Y0]; · iexact Y0
    iexact Y7
  iexact Y0
/-- The counters back at zero: the segments', and the semaphores' of no remote copy. -/
theorem zs_all : iprop(zs (F := F) c (insert 29 (insert 21 (insert 13 (insert 5 ∅)))) ∗ zs (F := F) c (insert 30 (insert 22 (insert 14 (insert 6 ∅)))) ∗ zs (F := F) c (insert 31 (insert 23 (insert 15 (insert 7 ∅)))) ∗ zs (F := F) c (insert 32 (insert 8 ∅)) ∗ zs (F := F) c (insert 28 (insert 4 (insert 27 (insert 19 (insert 11 (insert 3 (insert 26 (insert 18 (insert 10 (insert 2 (insert 25 (insert 17 (insert 9 (insert 1 ∅)))))))))))))) ∗ zs (F := F) c (insert 36 (insert 37 (insert 35 (insert 38 (insert 34 (insert 39 (insert 33 ∅))))))) ∗ zs (F := F) c (insert 43 (insert 44 (insert 42 (insert 45 (insert 41 (insert 46 (insert 40 ∅))))))) ∗ semVal ((c : Thread nD τ), .dma 12) 0 ∗ semVal ((c : Thread nD τ), .dma 16) 0 ∗ semVal ((c : Thread nD τ), .dma 20) 0 ∗ semVal ((c : Thread nD τ), .dma 24) 0 ∗ semVal ((c : Thread nD τ), .dma 47) 0 ∗ semVal ((c : Thread nD τ), .dma 48) 0 ∗ semVal ((c : Thread nD τ), .dma 49) 0 ∗ semVal ((c : Thread nD τ), .dma 50) 0 ∗ semVal ((c : Thread nD τ), .dma 51) 0) ⊢ zs (F := F) c (Finset.univ.erase 0) := by
  iintro ⟨Y0, Y1, Y2, Y3, Y4, Y5, Y6, Z12, Z16, Z20, Z24, Z47, Z48, Z49, Z50, Z51⟩
  ihave Hi := (zs_idle (F := F) c) $$ [Z12 Z16 Z20 Z24 Z47 Z48 Z49 Z50 Z51]
  · isplitl [Z12]; · iexact Z12
    isplitl [Z16]; · iexact Z16
    isplitl [Z20]; · iexact Z20
    isplitl [Z24]; · iexact Z24
    isplitl [Z47]; · iexact Z47
    isplitl [Z48]; · iexact Z48
    isplitl [Z49]; · iexact Z49
    isplitl [Z50]; · iexact Z50
    iexact Z51
  ihave Hz := (zs_eight (F := F) c (by decide +kernel) (by decide +kernel) (by decide +kernel) (by decide +kernel) (by decide +kernel) (by decide +kernel) (by decide +kernel) zset) $$ [Y0 Y1 Y2 Y3 Y4 Y5 Y6 Hi]
  · isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    iexact Hi
  iexact Hz

/-- The line, from its start to its end. -/
theorem line_wp : iprop(env m ρ ∗ start m ρ c) ⊢ WP c line (fun _ => final m ρ c) := by
  unfold start line WP
  rw [wp_deviceId]
  iintro ⟨#He, HO, HT, HP, Hcb, HC, Hw, Hout, HG, Hbox, Hx, Hst, Hown, Hbuf⟩
  ihave HT := (toks_open c) $$ HT
  icases HT with ⟨Tb, T7, T11, T17, T23, T15, T16, T21, T22, T25, T26, T27⟩
  ihave HP := (poss_open c) $$ HP
  icases HP with ⟨Pb, P5, P6, P7, P8, P1, P33, P40, Pz⟩
  ihave HC := (crs_open c) $$ HC
  icases HC with ⟨C5, C6, C7, C8, C40⟩
  ihave Hw := (w_open m c) $$ Hw
  icases Hw with ⟨Hwk, Hw12, Hw3⟩
  ihave Hout := ((rows_open c).trans (Entails.of_eq (rows_other c))) $$ Hout
  icases Hout with ⟨Hrow, Hrows⟩
  ihave HG := (slots_give c) $$ HG
  icases HG with ⟨HgL, HgR⟩
  ihave Hpay := (bar_close c) $$ [Hrows HgL HgR]
  · isplitl [Hrows]; · iexact Hrows
    isplitl [HgL]; · iexact HgL
    iexact HgR
  ihave Hbox := ((box_open c).trans (Entails.of_eq (bigSep_univ_eq_bigSepL (I := Fin 7) [0, 1, 2, 3, 4, 5, 6] (by decide) (by decide) _))) $$ Hbox
  ihave Hbuf := ((buf_open c).trans (Entails.of_eq (bigSep_univ_eq_bigSepL (I := Fin 2) [0, 1] (by decide) (by decide) _))) $$ Hbuf
  ihave Hbox := (Entails.of_eq (bl_box c)) $$ Hbox
  icases Hbox with ⟨X0, X1, X2, X3, X4, X5, X6⟩
  ihave Hbuf := (Entails.of_eq (bl_buf c)) $$ Hbuf
  icases Hbuf with ⟨B0, B1⟩
  ihave Pz := (Entails.of_eq (bl_idle c)) $$ Pz
  icases Pz with ⟨Z12, Z16, Z20, Z24, Z47, Z48, Z49, Z50, Z51⟩
  iapply (idle_wp m ρ c (i := 12) (by decide)) $$ [Z12]
  · isplitr; · iexact He
    iexact Z12
  iintro Z12
  iapply (idle_wp m ρ c (i := 16) (by decide)) $$ [Z16]
  · isplitr; · iexact He
    iexact Z16
  iintro Z16
  iapply (idle_wp m ρ c (i := 20) (by decide)) $$ [Z20]
  · isplitr; · iexact He
    iexact Z20
  iintro Z20
  iapply (idle_wp m ρ c (i := 24) (by decide)) $$ [Z24]
  · isplitr; · iexact He
    iexact Z24
  iintro Z24
  iapply (idle_wp m ρ c (i := 47) (by decide)) $$ [Z47]
  · isplitr; · iexact He
    iexact Z47
  iintro Z47
  iapply (idle_wp m ρ c (i := 48) (by decide)) $$ [Z48]
  · isplitr; · iexact He
    iexact Z48
  iintro Z48
  iapply (idle_wp m ρ c (i := 49) (by decide)) $$ [Z49]
  · isplitr; · iexact He
    iexact Z49
  iintro Z49
  iapply (idle_wp m ρ c (i := 50) (by decide)) $$ [Z50]
  · isplitr; · iexact He
    iexact Z50
  iintro Z50
  iapply (idle_wp m ρ c (i := 51) (by decide)) $$ [Z51]
  · isplitr; · iexact He
    iexact Z51
  iintro Z51
  iapply (entry_wp m ρ c (others c)) $$ [HO Tb Hpay Hcb Pb]
  · isplitr; · iexact He
    isplitl [HO]; · iexact HO
    isplitl [Tb]; · iexact Tb
    isplitl [Hpay]; · iexact Hpay
    isplitl [Hcb]; · iexact Hcb
    iexact Pb
  iintro ⟨HO, Hpay, Vb⟩
  ihave Hpay := (bar_open c) $$ Hpay
  icases Hpay with ⟨Hrows, HsR, HsL⟩
  ihave Hrows := (Entails.of_eq (bl_rows c)) $$ Hrows
  icases Hrows with ⟨R7, R1, R6, R2, R5, R3, R4⟩
  unfold rightSlots leftSlots
  icases HsR with ⟨SA8, SB8, SA7, SB7, SA6, SB6, SA5⟩
  icases HsL with ⟨SC0, SD0, SC1, SD1, SC2, SD2, SD3⟩
  iapply (hop0_wp m ρ c) $$ [HO Hw12 SA8 SB8 SC0 SD0 T7]
  · isplitr; · iexact He
    isplitl [HO]; · iexact HO
    isplitl [Hw12]; · iexact Hw12
    isplitl [SA8 SB8 SC0 SD0]
    · isplitl [SA8]; · iexact SA8
      isplitl [SB8]; · iexact SB8
      isplitl [SC0]; · iexact SC0
      iexact SD0
    iexact T7
  iintro ⟨HO, C1⟩
  iapply (own0_wp m ρ c) $$ [HO Hw3 Hx Hst Hown Hrow Z47 Z48 Z49]
  · isplitr; · iexact He
    isplitl [HO]; · iexact HO
    isplitl [Hw3]; · iexact Hw3
    isplitl [Hx]; · iexact Hx
    isplitl [Hst]; · iexact Hst
    isplitl [Hown]; · iexact Hown
    isplitl [Hrow]; · iexact Hrow
    isplitl [Z47]; · iexact Z47
    isplitl [Z48]; · iexact Z48
    iexact Z49
  iintro ⟨HO, Hx, Hst, Hf, Z47, Z48⟩
  iapply (arr0_wp m ρ c) $$ [HO C5 P5 SA7 SB7 SC1 SD1 T11]
  · isplitr; · iexact He
    isplitl [HO]; · iexact HO
    isplitl [C5]; · iexact C5
    isplitl [P5]; · iexact P5
    isplitl [SA7 SB7 SC1 SD1]
    · isplitl [SA7]; · iexact SA7
      isplitl [SB7]; · iexact SB7
      isplitl [SC1]; · iexact SC1
      iexact SD1
    iexact T11
  iintro ⟨HO, C2, ⟨LA7, LB7, LC1, LD1⟩, Y0⟩
  ihave Hwk' := (wks_make m ρ c) $$ [Hx Hst B0 B1 Z47 Z48 Z50 Z51]
  · isplitl [Hx]; · iexact Hx
    isplitl [Hst]; · iexact Hst
    isplitl [B0]; · iexact B0
    isplitl [B1]; · iexact B1
    isplitl [Z47]; · iexact Z47
    isplitl [Z48]; · iexact Z48
    isplitl [Z50]; · iexact Z50
    iexact Z51
  iapply (pr1_wp m ρ c) $$ [HO Hwk' LA7 LB7 X0 R7 T15]
  · isplitr; · iexact He
    isplitl [HO]; · iexact HO
    isplitl [Hwk']; · iexact Hwk'
    isplitl [LA7 LB7]
    · isplitl [LA7]; · iexact LA7
      iexact LB7
    isplitl [X0]; · iexact X0
    isplitl [R7]; · iexact R7
    iexact T15
  iintro ⟨HO, Hwk', C33⟩
  iapply (pr7_wp m ρ c) $$ [HO Hwk' LC1 LD1 X6 R1 T16]
  · isplitr; · iexact He
    isplitl [HO]; · iexact HO
    isplitl [Hwk']; · iexact Hwk'
    isplitl [LC1 LD1]
    · isplitl [LC1]; · iexact LC1
      iexact LD1
    isplitl [X6]; · iexact X6
    isplitl [R1]; · iexact R1
    iexact T16
  iintro ⟨HO, Hwk', C39⟩
  iapply (arr1_wp m ρ c) $$ [HO C6 P6 SA6 SB6 SC2 SD2 T17]
  · isplitr; · iexact He
    isplitl [HO]; · iexact HO
    isplitl [C6]; · iexact C6
    isplitl [P6]; · iexact P6
    isplitl [SA6 SB6 SC2 SD2]
    · isplitl [SA6]; · iexact SA6
      isplitl [SB6]; · iexact SB6
      isplitl [SC2]; · iexact SC2
      iexact SD2
    iexact T17
  iintro ⟨HO, C3, ⟨LA6, LB6, LC2, LD2⟩, Y1⟩
  iapply (pr2_wp m ρ c) $$ [HO Hwk' LA6 LB6 X1 R6 T21]
  · isplitr; · iexact He
    isplitl [HO]; · iexact HO
    isplitl [Hwk']; · iexact Hwk'
    isplitl [LA6 LB6]
    · isplitl [LA6]; · iexact LA6
      iexact LB6
    isplitl [X1]; · iexact X1
    isplitl [R6]; · iexact R6
    iexact T21
  iintro ⟨HO, Hwk', C34⟩
  iapply (pr6_wp m ρ c) $$ [HO Hwk' LC2 LD2 X5 R2 T22]
  · isplitr; · iexact He
    isplitl [HO]; · iexact HO
    isplitl [Hwk']; · iexact Hwk'
    isplitl [LC2 LD2]
    · isplitl [LC2]; · iexact LC2
      iexact LD2
    isplitl [X5]; · iexact X5
    isplitl [R2]; · iexact R2
    iexact T22
  iintro ⟨HO, Hwk', C38⟩
  iapply (arr2_wp m ρ c) $$ [HO C7 P7 SA5 SD3 T23]
  · isplitr; · iexact He
    isplitl [HO]; · iexact HO
    isplitl [C7]; · iexact C7
    isplitl [P7]; · iexact P7
    isplitl [SA5 SD3]
    · isplitl [SA5]; · iexact SA5
      iexact SD3
    iexact T23
  iintro ⟨HO, C4, ⟨LA5, LB5, LC3, LD3⟩, Y2⟩
  iapply (pr3_wp m ρ c) $$ [HO Hwk' LA5 LB5 X2 R5 T25]
  · isplitr; · iexact He
    isplitl [HO]; · iexact HO
    isplitl [Hwk']; · iexact Hwk'
    isplitl [LA5 LB5]
    · isplitl [LA5]; · iexact LA5
      iexact LB5
    isplitl [X2]; · iexact X2
    isplitl [R5]; · iexact R5
    iexact T25
  iintro ⟨HO, Hwk', C35⟩
  iapply (pr5_wp m ρ c) $$ [HO Hwk' LC3 LD3 X4 R3 T26]
  · isplitr; · iexact He
    isplitl [HO]; · iexact HO
    isplitl [Hwk']; · iexact Hwk'
    isplitl [LC3 LD3]
    · isplitl [LC3]; · iexact LC3
      iexact LD3
    isplitl [X4]; · iexact X4
    isplitl [R3]; · iexact R3
    iexact T26
  iintro ⟨HO, Hwk', C37⟩
  iapply (arr3_wp m ρ c) $$ [HO C8 P8]
  · isplitr; · iexact He
    isplitl [HO]; · iexact HO
    isplitl [C8]; · iexact C8
    iexact P8
  iintro ⟨HO, ⟨LA4, LD4⟩, Y3⟩
  iapply (pr4_wp m ρ c) $$ [HO Hwk' LA4 LD4 X3 R4 T27]
  · isplitr; · iexact He
    isplitl [HO]; · iexact HO
    isplitl [Hwk']; · iexact Hwk'
    isplitl [LA4 LD4]
    · isplitl [LA4]; · iexact LA4
      iexact LD4
    isplitl [X3]; · iexact X3
    isplitl [R4]; · iexact R4
    iexact T27
  iintro ⟨HO, Hwk', C36⟩
  ihave Cd := (cr_drain c) $$ [C1 C2 C3 C4]
  · isplitl [C1]; · iexact C1
    isplitl [C2]; · iexact C2
    isplitl [C3]; · iexact C3
    iexact C4
  iapply (drainH_wp m ρ c) $$ [HO Cd P1]
  · isplitr; · iexact He
    isplitl [HO]; · iexact HO
    isplitl [Cd]; · iexact Cd
    iexact P1
  iintro ⟨HO, Y4⟩
  ihave Cd := (cr_drainB c) $$ [C33 C39 C34 C38 C35 C37 C36]
  · isplitl [C33]; · iexact C33
    isplitl [C39]; · iexact C39
    isplitl [C34]; · iexact C34
    isplitl [C38]; · iexact C38
    isplitl [C35]; · iexact C35
    isplitl [C37]; · iexact C37
    iexact C36
  iapply (drainB_wp m ρ c) $$ [HO Cd P33 Hf]
  · isplitr; · iexact He
    isplitl [HO]; · iexact HO
    isplitl [Cd]; · iexact Cd
    isplitl [P33]; · iexact P33
    iexact Hf
  iintro ⟨HO, Hrow, Hown, Z49, Y5⟩
  iapply (arrB_wp m ρ c) $$ [HO C40 P40]
  · isplitr; · iexact He
    isplitl [HO]; · iexact HO
    isplitl [C40]; · iexact C40
    iexact P40
  iintro ⟨HO, Hres, Y6⟩
  ihave Hout := (out_close m ρ c) $$ [Hrow Hres]
  · isplitl [Hrow]; · iexact Hrow
    iexact Hres
  unfold wks
  icases Hwk' with ⟨Hx, Hst, B0, B1, Z47, Z48, Z50, Z51⟩
  ihave Hbuf := (buf_back c) $$ [B0 B1]
  · isplitl [B0]; · iexact B0
    iexact B1
  ihave Hz := (zs_all c) $$ [Y0 Y1 Y2 Y3 Y4 Y5 Y6 Z12 Z16 Z20 Z24 Z47 Z48 Z49 Z50 Z51]
  · isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    isplitl [Z12]; · iexact Z12
    isplitl [Z16]; · iexact Z16
    isplitl [Z20]; · iexact Z20
    isplitl [Z24]; · iexact Z24
    isplitl [Z47]; · iexact Z47
    isplitl [Z48]; · iexact Z48
    isplitl [Z49]; · iexact Z49
    isplitl [Z50]; · iexact Z50
    iexact Z51
  iapply (fin_wp c)
  unfold final
  isplitl [HO]; · iexact HO
  isplitl [Hout]; · iexact Hout
  isplitl [Hwk]; · iexact Hwk
  isplitl [Hx]; · iexact Hx
  isplitl [Hst]; · iexact Hst
  isplitl [Hown]; · iexact Hown
  isplitl [Hbuf]; · iexact Hbuf
  isplitl [Vb]; · iexact Vb
  iexact Hz

end Cert.KernelIdeal.Prot
-- ==== Proof.KernelIdeal.Launch.lean ====
/-
The launch: what the start-up state deals each device of the protocol, and the credits it can count on.
-/
module

public import proofs.«01_k».proof.Proof.KernelIdeal.Body
public import Idealize.ShloMosaic.Lib.Pipeline.CollectiveSegs

@[expose] public section

set_option maxRecDepth 16384

noncomputable section

namespace Cert.KernelIdeal.Prot

open Cert.KernelIdeal Cert.KernelIdeal.Gen Cert.KernelIdeal.Ring Cert.KernelIdeal.Flat

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The cells and the tokens -/

/-- Different indices name different semaphores. -/
theorem csem_injective : Function.Injective csem := fun i j h => by
  unfold csem at h
  by_cases hi : i = 0 <;> by_cases hj : j = 0
  · rw [hi, hj]
  · rw [if_pos hi, if_neg hj] at h; cases h
  · rw [if_neg hi, if_pos hj] at h; cases h
  · rw [if_neg hi, if_neg hj] at h; exact SemLoc.dma.inj h

/-- A semaphore's cell determines its device and its index. -/
theorem cell_inj {c c' : Dev nD} {i i' : Fin 52} (h : cell c i = cell c' i') : c = c' ∧ i = i' :=
  ⟨congrArg (fun g : GSem nD τ sig => g.1.1) h, csem_injective (congrArg Prod.snd h)⟩

/-- Every device's cells. -/
def ringCells : Finset (GSem nD τ sig) :=
  Finset.univ.map ⟨fun ci : Dev nD × Fin 52 => cell ci.1 ci.2, fun a b h => Prod.ext (cell_inj h).1 (cell_inj h).2⟩

/-- Copy `k` of the copies, as a payment: the signals come first. -/
def sk (k : Fin 21) : Fin 28 := ⟨k.val + 7, by omega⟩
/-- Different copies are different payments. -/
theorem sk_injective : Function.Injective sk := fun a b h => Fin.ext (Nat.add_right_cancel (congrArg Fin.val h))

/-- The duty payment `k` meets at its receiver, and the one a copy meets at its sender. -/
abbrev recvTok (ck : Dev nD × Fin 28) : GSem nD τ sig × ℕ × Dev nD := (pcell ck.2 ck.1, 0, pduty ck.2 ck.1)
abbrev sendTok (ck : Dev nD × Fin 21) : GSem nD τ sig × ℕ × Dev nD := (cell ck.1 (ss (sk ck.2)), 0, 0)

/-- Two payments onto the same semaphore of the same device for the same duty are one payment. -/
theorem tgt_inj : ∀ k k' : Fin 28, rs k = rs k' → ∀ c c' : Dev nD, tgt k c = tgt k' c' → pduty k c = pduty k' c' → c = c' ∧ k = k' := by decide +kernel
/-- Different copies count on different sender's semaphores. -/
theorem ss_inj : ∀ k k' : Fin 21, ss (sk k) = ss (sk k') → k = k' := by decide +kernel
/-- No semaphore is both a sender's and a receiver's. -/
theorem ss_ne_rs : ∀ (k : Fin 21) (k' : Fin 28), ss (sk k) ≠ rs k' := by decide +kernel

/-- Different payments have different tokens on the receiver's side. -/
theorem recvTok_injective : Function.Injective recvTok := fun a b h => by
  have hc := cell_inj (congrArg Prod.fst h)
  have h' := tgt_inj a.2 b.2 hc.2 a.1 b.1 hc.1 (congrArg (fun x : GSem nD τ sig × ℕ × Dev nD => x.2.2) h)
  exact Prod.ext h'.1 h'.2
/-- Different copies have different tokens on the sender's side. -/
theorem sendTok_injective : Function.Injective sendTok := fun a b h => by
  have hc := cell_inj (congrArg Prod.fst h)
  exact Prod.ext hc.1 (ss_inj _ _ hc.2)

/-- Every device's tokens, indexed by the device that pays. -/
def recvToks : Finset (GSem nD τ sig × ℕ × Dev nD) := Finset.univ.map ⟨recvTok, recvTok_injective⟩
def sendToks : Finset (GSem nD τ sig × ℕ × Dev nD) := Finset.univ.map ⟨sendTok, sendTok_injective⟩

/-- No token belongs to both sides. -/
theorem toks_disjoint : Disjoint recvToks sendToks := by
  rw [Finset.disjoint_left]
  intro x h1 h2
  obtain ⟨a, -, rfl⟩ := Finset.mem_map.mp h1
  obtain ⟨b, -, hb⟩ := Finset.mem_map.mp h2
  exact ss_ne_rs _ _ (cell_inj (congrArg Prod.fst hb)).2

/-- The start-up element: the pipeline's, the cells' rounds, no counter. -/
def u₀ : UU :=
  (initOf (Pipeline.cells cfgs cellOf_inj) (Pipeline.launchToks cfgs cellOf_inj), (initOf ringCells (recvToks ∪ sendToks), (1 : Counters)))

/-- What the launch starts from is the pipeline's part and the ring's. -/
theorem launch_split : (ownU u₀ : sProp 𝕄)
    ⊢ iprop(BI.own (EP (initOf (Pipeline.cells cfgs cellOf_inj) (Pipeline.launchToks cfgs cellOf_inj))) ∗ BI.own (ER (initOf ringCells (recvToks ∪ sendToks)))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op _)))

/-- A device's tokens as minted. -/
def toks : sProp 𝕄 :=
  iprop((bigSep Finset.univ fun k : Fin 28 => dutyTok ER (pcell k c) 0 (pduty k c)) ∗ (bigSep Finset.univ fun k : Fin 21 => dutyTok ER (cell c (ss (sk k))) 0 0))

/-- The payments from the eighth on are the copies. -/
theorem copies_eq : (Finset.univ.filter fun k : Fin 28 => 7 ≤ k.val) = Finset.univ.map ⟨sk, sk_injective⟩ := by decide +kernel
/-- A copy's sender's semaphore is not the barrier's. -/
theorem ss_pos : ∀ k : Fin 28, 7 ≤ k.val → ss k ≠ 0 := by decide +kernel
/-- The first seven payments go to the barrier, the others never do. -/
theorem rs_cases : ∀ k : Fin 28, (k.val < 7 → rs k = 0) ∧ (¬ k.val < 7 → rs k ≠ 0) := by decide +kernel

/-- A payment's tokens, the receiver's and a copy's sender's, are what the payer holds for it. -/
theorem tok_intro (k : Fin 28) :
    iprop(dutyTok ER (pcell k c) 0 (pduty k c) ∗ (if 7 ≤ k.val then dutyTok ER (cell c (ss k)) 0 0 else BI.emp)) ⊢ tokA (F := F) c k := by
  unfold tokA pduty
  by_cases h : k.val < 7
  · rw [if_pos h, if_pos h, if_neg (by omega)]
    dsimp only [pcell, cell]; rw [(rs_cases k).1 h, csem_zero]
    exact sep_elim_left
  · rw [if_neg h, if_neg h, if_pos (by omega)]
    unfold tok; dsimp only [pcell, cell]
    rw [csem_pos ((rs_cases k).2 h), csem_pos (ss_pos k (by omega))]
    iintro ⟨H1, H2⟩
    isplitl [H2]; · iexact H2
    iexact H1

/-- They are the tokens the device's line starts with. -/
theorem toks_dealt : toks (F := F) c ⊢ bigSep Finset.univ fun k : Fin 28 => tokA (F := F) c k := by
  unfold toks
  have h : (bigSep Finset.univ fun k : Fin 21 => (dutyTok ER (cell c (ss (sk k))) 0 0 : sProp 𝕄))
      = bigSep Finset.univ fun k : Fin 28 => (if 7 ≤ k.val then dutyTok ER (cell c (ss k)) 0 0 else BI.emp : sProp 𝕄) := by
    rw [← BI.bigSep_filter, copies_eq, BI.bigSep_map]; rfl
  rw [h, ← bigSep_sep']
  exact bigSep_mono fun k _ => tok_intro c k

/-- What the launch element deals a device. -/
def G : sProp 𝕄 :=
  iprop((bigSep Finset.univ fun i : Fin 52 => roundState ER (Rd m ρ) (cell c i) 0)
    ∗ (bigSep Finset.univ fun i : Fin 52 => atPos ER (cell c i) 0 ∅ 0) ∗ (bigSep Finset.univ fun i : Fin 52 => reached ER (cell c i) 0) ∗ toks (F := F) c)

/-- What the first step makes of it on all devices together: every cell's record, and each device's positions and tokens. -/
def G' : sProp 𝕄 :=
  iprop((∃ K, records m ρ K) ∗ (bigSep Finset.univ fun i : Fin 52 => posA (F := F) c i) ∗ (bigSep Finset.univ fun k : Fin 28 => tokA (F := F) c k))

/-- The ring's cells are the 52 of each of the devices. -/
theorem cells_split (Φ : GSem nD τ sig → sProp 𝕄) :
    bigSep ringCells Φ = bigSep Finset.univ fun c : Dev nD => bigSep Finset.univ fun i : Fin 52 => Φ (cell c i) := by
  unfold ringCells; rw [BI.bigSep_map, bigSep_univ_prod]; rfl
/-- All the tokens together are each device's share of them. -/
theorem toks_split : bigSep (recvToks ∪ sendToks) (fun x => (dutyTok ER x.1 x.2.1 x.2.2 : sProp 𝕄)) = bigSep Finset.univ fun c : Dev nD => toks (F := F) c := by
  rw [BI.bigSep_union toks_disjoint]
  unfold recvToks sendToks toks
  rw [BI.bigSep_map, BI.bigSep_map, bigSep_univ_prod, bigSep_univ_prod, bigSep_sep']; rfl

/-- The ring's starting resource gives every device its cells and its tokens. -/
theorem fund_ring : BI.own (ER (initOf ringCells (recvToks ∪ sendToks))) ⊢ (|==> bigSep Finset.univ (G m ρ) : sProp 𝕄) := by
  iintro HX
  imod (Rounds.fund ER (Rd m ρ) ringCells (recvToks ∪ sendToks)) $$ HX with ⟨Hst, Hr, Hat, Htok⟩
  imodintro
  ihave Hst' := (Entails.of_eq (cells_split fun g => roundState ER (Rd m ρ) g 0)) $$ Hst
  ihave Hat' := (Entails.of_eq (cells_split fun g => atPos ER g 0 ∅ 0)) $$ Hat
  ihave Hr' := (Entails.of_eq (cells_split fun g => reached ER g 0)) $$ Hr
  ihave Htok' := (Entails.of_eq toks_split) $$ Htok
  unfold G; simp only [bigSep_sep']
  isplitl [Hst']; · iexact Hst'
  isplitl [Hat']; · iexact Hat'
  isplitl [Hr']; · iexact Hr'
  iexact Htok'

/-! ## The semaphores at launch -/

/-- The kernel's own semaphores: every DMA semaphore but the launch's staging one. -/
def osem : Fin 51 → SemLoc sig := fun k => .dma k.succ
/-- The kernel's own semaphores are the ones that its launch opens. -/
theorem ownSemFacts : Pipeline.OwnSemFacts cfg0.spec osem := by decide +kernel

/-- The indices other than the barrier's are the successors. -/
theorem univ_erase : (Finset.univ : Finset (Fin 52)).erase 0 = Finset.univ.map (Fin.succEmb 51) := by decide +kernel

/-- The kernel's own counters at zero, listed by index. -/
theorem ownSems0_eq : (Pipeline.ownSems0 (Ix := Unit) (Name := ℕ) (U := UU) (Lvl := ℕ) (Val := Elt F) (τ := τ) osem c : sProp 𝕄)
    = zs (F := F) c (Finset.univ.erase 0) := by
  unfold zs; rw [univ_erase, BI.bigSep_map]; rfl
/-- The barrier's is the one semaphore no kernel allocates. -/
theorem unscopedSems0_eq : (unscopedSems0 c : sProp 𝕄) = semVal ((c : Thread nD τ), .reg barS) 0 := by
  unfold unscopedSems0; rw [bigSep_eq_bigSepL_of_eq [SemLoc.reg barS] (by decide +kernel) (by decide)]; rfl

/-- With the barrier's counter these are all 52 counters of a device at zero. -/
theorem sems0_eq :
    iprop(Pipeline.ownSems0 (Ix := Unit) (Name := ℕ) (U := UU) (Lvl := ℕ) (Val := Elt F) (τ := τ) osem c ∗ unscopedSems0 c)
      ⊢ (bigSep Finset.univ fun i : Fin 52 => semVal (cell c i) 0 : sProp 𝕄) := by
  rw [ownSems0_eq, unscopedSems0_eq, BI.bigSep_erase (Finset.mem_univ (0 : Fin 52))]
  unfold zs
  rw [bigSep_congr (s := Finset.univ.erase (0 : Fin 52)) (Ψ := fun i => semVal (cell c i) 0) (fun i hi => by dsimp only [cell]; rw [csem_pos (Finset.ne_of_mem_erase hi)])]
  exact sep_comm.1

/-! ## The first step -/

/-- A device's counters at zero and its cells make the cells' invariants. -/
theorem core_alloc :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : Fin 52 => iprop(∃ κ : ℕ, cellInv ER (Rd m ρ) κ (cell c i)))
          ∗ (bigSep Finset.univ fun i : Fin 52 => atPos ER (cell c i) 0 ∅ 0) ∗ (bigSep Finset.univ fun i : Fin 52 => reached ER (cell c i) 0) ∗ toks (F := F) c) := by
  unfold G
  iintro ⟨Hos, Hus, Hst, Hat, Hr, Htok⟩
  ihave Hv := (sems0_eq (F := F) c) $$ [Hos Hus]
  · isplitl [Hos] <;> iassumption
  imod (show iprop((bigSep Finset.univ fun i : Fin 52 => semVal (cell c i) 0) ∗ bigSep Finset.univ fun i : Fin 52 => roundState ER (Rd m ρ) (cell c i) 0)
      ⊢ (|={Set.univ}=> bigSep Finset.univ fun i : Fin 52 => iprop(∃ κ : ℕ, cellInv ER (Rd m ρ) κ (cell c i)) : sProp 𝕄) from by
        rw [← bigSep_sep']
        exact (bigSep_mono fun i _ => (Rounds.body_intro ER (Rd m ρ) (cell c i)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- The start of a cell's first round is what the waiter holds. -/
theorem posA_eq (i : Fin 52) : (atPos ER (cell c i) 0 ∅ 0 : sProp 𝕄) = posA (F := F) c i := by
  unfold posA pos
  by_cases h : i = 0
  · rw [if_pos h, h]; rfl
  · rw [if_neg h]; dsimp only [cell]; rw [csem_pos h]

/-- A device's share of the step, beside the records. -/
theorem G'_intro (K : Dev nD × Fin 52 → ℕ) :
    iprop(records m ρ K ∗ (bigSep Finset.univ fun i : Fin 52 => atPos ER (cell c i) 0 ∅ 0) ∗ toks (F := F) c) ⊢ G' m ρ c := by
  unfold G'
  rw [bigSep_congr (s := Finset.univ) fun i _ => posA_eq (F := F) c i]
  iintro ⟨HK, Hat, Htok⟩
  ihave Ht := (toks_dealt (F := F) c) $$ Htok
  isplitl [HK]; · iexists K; iexact HK
  isplitl [Hat]; · iexact Hat
  iexact Ht

/-- A fact that can be used again may be used at every index. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants and the rounds reached, of all cells, are the records that every device reads. -/
theorem records_intro (K : Dev nD × Fin 52 → ℕ) :
    iprop((bigSep Finset.univ fun ci : Dev nD × Fin 52 => cellInv ER (Rd m ρ) (K ci) (cell ci.1 ci.2))
      ∗ bigSep Finset.univ fun ci : Dev nD × Fin 52 => reached ER (cell ci.1 ci.2) 0) ⊢ records m ρ K := by
  unfold records; rw [bigSep_sep']

/-- From each device's part: the records, shared by all devices, and what each device holds alone. -/
theorem regroup :
    (bigSep Finset.univ fun c : Dev nD => iprop((bigSep Finset.univ fun i : Fin 52 => iprop(∃ κ : ℕ, cellInv ER (Rd m ρ) κ (cell c i)))
          ∗ (bigSep Finset.univ fun i : Fin 52 => atPos ER (cell c i) 0 ∅ 0) ∗ (bigSep Finset.univ fun i : Fin 52 => reached ER (cell c i) 0) ∗ toks (F := F) c) : sProp 𝕄)
      ⊢ bigSep Finset.univ (G' m ρ) := by
  rw [bigSep_sep', bigSep_sep', bigSep_sep', ← bigSep_univ_prod (fun ci : Dev nD × Fin 52 => iprop(∃ κ : ℕ, cellInv ER (Rd m ρ) κ (cell ci.1 ci.2))),
    ← bigSep_univ_prod (fun ci : Dev nD × Fin 52 => (reached ER (cell ci.1 ci.2) 0 : sProp 𝕄))]
  iintro ⟨HI, Hat, HR, Htok⟩
  ihave HK := (BI.bigSep_exists_pi Finset.univ (fun (ci : Dev nD × Fin 52) (κ : ℕ) => (cellInv ER (Rd m ρ) κ (cell ci.1 ci.2) : sProp 𝕄))) $$ HI
  icases HK with ⟨%K, HI⟩
  ihave HK := (records_intro m ρ K) $$ [HI HR]
  · isplitl [HI] <;> iassumption
  iapply (with_persistent (R := records m ρ K) fun c _ => G'_intro m ρ c K)
  isplitl [HK]; · iexact HK
  iapply (Entails.of_eq (bigSep_sep' Finset.univ (fun c : Dev nD => bigSep Finset.univ fun i : Fin 52 => (atPos ER (cell c i) 0 ∅ 0 : sProp 𝕄)) fun c => toks (F := F) c).symm)
  isplitl [Hat]; · iexact Hat
  iexact Htok

/-- The step on all devices at once: every semaphore's counter goes into its cell's invariant. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- What a device owes all told at launch. -/
def O₀ (c : Dev nD) : CellTallies nD τ sig Unit := owr c 28

/-- What is still owed to a cell is the sum of the payments that go to it. -/
theorem owr_apply (d : Dev nD) (g : GSem nD τ sig) : ∀ n : ℕ, owr d n g () = ∑ j ∈ Finset.range n, if g = pcell (kOf j) d then pamt (kOf j) else 0
  | 0 => rfl
  | n + 1 => by
    rw [Finset.sum_range_succ, ← owr_apply d g n]
    show (owr d n + tallyAt (pcell (kOf n) d) () (pamt (kOf n))) g () = _
    rw [Pi.add_apply, Finsupp.add_apply, tallyAt_apply]
    simp only [and_true]

/-- What all devices together owe cell `i` of device `c`: each payment to that semaphore comes from one device. -/
theorem owed_all (i : Fin 52) : ∑ d : Dev nD, O₀ d (cell c i) () = ∑ j : Fin 28, if rs (kOf j) = i then pamt (kOf j) else 0 := by
  unfold O₀
  rw [Finset.sum_congr rfl fun d _ => owr_apply d (cell c i) 28, Finset.sum_comm, Finset.sum_range]
  refine Finset.sum_congr rfl fun j _ => ?_
  by_cases h : rs (kOf j) = i
  · rw [if_pos h, Finset.sum_eq_single ((tgt (kOf j)).symm c)]
    · rw [if_pos]; dsimp only [pcell]; rw [Equiv.apply_symm_apply, h]
    · intro d _ hd
      exact if_neg fun hg => hd (by rw [(cell_inj hg).1, Equiv.symm_apply_apply])
    · exact fun h => absurd (Finset.mem_univ _) h
  · rw [if_neg h]
    exact Finset.sum_eq_zero fun d _ => if_neg fun hg => h (cell_inj hg).2.symm

/-- Seven units go to a barrier. -/
theorem owed_bar : (∑ j : Fin 28, if rs (kOf j) = 0 then pamt (kOf j) else 0) = 7 := by
  have h : ∀ j : Fin 28, (if rs (kOf j) = 0 then pamt (kOf j) else 0) = if rs (kOf j) = 0 then 1 else 0 := fun j => by
    by_cases hj : rs (kOf j) = 0
    · rw [if_pos hj, if_pos hj]; unfold pamt
      exact if_pos (by_contra fun hn => (rs_cases _).2 hn hj)
    · rw [if_neg hj, if_neg hj]
  rw [Finset.sum_congr rfl fun j _ => h j]
  decide +kernel

/-- Every receiver's semaphore is paid by exactly one copy. -/
theorem recv_one : ∀ i ∈ recvs, ∃ j : Fin 28, rs (kOf j) = i ∧ ¬ (kOf j).val < 7 ∧ ∀ j' : Fin 28, rs (kOf j') = i → j' = j := by decide +kernel
/-- So what goes to it is that copy's amount. -/
theorem owed_recv {i : Fin 52} (hi : i ∈ recvs) : (∑ j : Fin 28, if rs (kOf j) = i then pamt (kOf j) else 0) = amt i := by
  obtain ⟨j, h1, h2, h3⟩ := recv_one i hi
  rw [Finset.sum_eq_single j (fun j' _ hj => if_neg fun h => hj (h3 j' h)) fun h => absurd (Finset.mem_univ _) h, if_pos h1]
  unfold pamt; rw [if_neg h2, h1]

/-- The credit that the launch gives for a cell is what all devices together owe it. -/
theorem launch_at (i : Fin 52) (n : ℕ) (h : (∑ j : Fin 28, if rs (kOf j) = i then pamt (kOf j) else 0) = n) :
    tallyOn (cell c i) (launchCredit (Pipeline.owing O₀) 0 (cell c i)) = (tallyAt (cell c i) () n : CellTallies nD τ sig Unit) := by
  unfold tallyAt; refine congrArg _ (Finsupp.ext fun u => ?_); cases u
  rw [Pipeline.launchCredit_owing, Finsupp.single_eq_same, owed_all, h]

/-- The barrier is not among the receivers' semaphores. -/
theorem recvs_pos : ∀ i ∈ recvs, i ≠ 0 := by decide +kernel
/-- The DMA semaphore of an index. -/
def dmaE : Fin 52 ↪ SemLoc sig := ⟨fun i => .dma i, fun _ _ h => SemLoc.dma.inj h⟩

/-- A device's launch credit is seven units of its barrier and each receiver's semaphore's amount. -/
theorem creds : (Pipeline.launchCred O₀ c : sProp 𝕄)
    ⊢ iprop(cred (tallyAt ((c : Thread nD τ), .reg barS) () 7) ∗ bigSep recvs fun i : Fin 52 => cr (F := F) c i) := by
  unfold Pipeline.launchCred
  rw [bigSep_univ_at _ (SemLoc.reg barS)]
  refine Entails.trans (sep_mono_right (BI.bigSep_subset (t := recvs.map dmaE) ?_)) ?_
  · intro x hx
    obtain ⟨i, -, rfl⟩ := Finset.mem_map.mp hx
    exact Finset.mem_erase.mpr ⟨(fun h => by cases h), Finset.mem_univ _⟩
  · rw [BI.bigSep_map, show ((c : Thread nD τ), SemLoc.reg barS) = cell c 0 from rfl, launch_at c 0 7 owed_bar]
    refine sep_mono_right (bigSep_mono fun i hi => ?_)
    unfold cr
    have := launch_at c i _ (owed_recv hi)
    dsimp only [cell] at this
    rw [csem_pos (recvs_pos i hi)] at this
    exact Entails.of_eq (congrArg cred this)

end Cert.KernelIdeal.Prot
-- ==== Proof.KernelIdeal.Run.lean ====
/-
The run: every device's body from the launch to its result, and what every finished run has computed.
-/
module

public import proofs.«01_k».proof.Proof.KernelIdeal.Launch

@[expose] public section

set_option maxRecDepth 16384

noncomputable section

namespace Cert.KernelIdeal.Prot

open Cert.KernelIdeal Cert.KernelIdeal.Gen Cert.KernelIdeal.Ring Cert.KernelIdeal.Flat

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## Whole buffers -/

/-- A whole array of any contents may be held as such. -/
theorem any_whole {sp : Space} {sh : Shape} (M : Memref sig .tc sp sh .f32) (hM : M.IsWhole) (f : Buf (Elt F) (M.view.loc (c : Thread nD τ))) :
    (M.view.loc (c : Thread nD τ) ↦{fullShare} f) ⊢ any (F := F) c M := by
  unfold any; rw [hM.set_eq_univ]
  iintro H; iexists f; iexact H

/-! ## What the body starts and ends with -/

/-- What the launch hands a device beside the launch's buffers. -/
def given : sProp 𝕄 :=
  iprop(env m ρ ∗ (bigSep Finset.univ fun k : Fin 28 => tokA (F := F) c k) ∗ (bigSep Finset.univ fun i : Fin 52 => posA (F := F) c i)
    ∗ cred (tallyAt ((c : Thread nD τ), .reg barS) () 7) ∗ (bigSep recvs fun i : Fin 52 => cr (F := F) c i)
    ∗ ((c : Thread nD τ).loc main_arg1 ↦{fullShare} wAt m c)
    ∗ any (F := F) c outM ∗ (any (F := F) c G0 ∗ any (F := F) c G1 ∗ any (F := F) c G2 ∗ any (F := F) c G3) ∗ any (F := F) c boxM)
/-- A device's working buffers. -/
def scratch : sProp 𝕄 := iprop(any (F := F) c stM ∗ any (F := F) c ownM ∗ any (F := F) c bufM)
/-- What a device keeps of its result and its columns. -/
def result : sProp 𝕄 := iprop(hold c outM fullShare (OUT m ρ c) ∗ ((c : Thread nD τ).loc main_arg1 ↦{fullShare.left} wAt m c))

def Φ₀ : sProp 𝕄 := iprop(given m ρ c ∗ scratch (F := F) c)
def Φ₁ : sProp 𝕄 := iprop(result m ρ c ∗ scratch (F := F) c ∗ semVal ((c : Thread nD τ), .reg barS) 0 ∗ zs (F := F) c (Finset.univ.erase 0))

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-! ## The body -/

abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

/-- The staged rows are held with their contents. -/
theorem hold_x (X : (cc0_stg0_0 : Ref sig .tc).ty.Contents (Elt F)) : stg c cc0_stg0_0 X ⊢ hold c xM fullShare X := by
  unfold hold
  iintro ⟨%f, %hf, H⟩
  iexists f
  isplitl [H]
  · rw [(Memref.isWhole_whole cc0_stg0_0).set_eq_univ]; iexact H
  · ipureintro; rw [← hf]; rfl
/-- And given back to the stage. -/
theorem x_hold (X : (cc0_stg0_0 : Ref sig .tc).ty.Contents (Elt F)) : hold c xM fullShare X ⊢ stg c cc0_stg0_0 X := by
  unfold hold
  rw [(Memref.isWhole_whole cc0_stg0_0).set_eq_univ]
  iintro ⟨%f, H, %hf⟩
  iexists f
  isplitr
  · ipureintro; exact hf
  · iexact H

def bodyPre : sProp 𝕄 :=
  iprop(Φ₀ m ρ c ∗ (dats m ρ 0 c).owesAt () t0_0.castSucc ∗ (∃ d, stg c cc0_stg0_0 ((dats m ρ 0 c).before (0 : Fin 1) t0_0 d)))
def bodyPost : sProp 𝕄 :=
  iprop(Φ₁ m ρ c ∗ (dats m ρ 0 c).owesAt () t0_0.succ ∗ stg c cc0_stg0_0 (xAt m ρ c))

/-- Before the body the stage holds the device's rows. -/
theorem before_x (d : (cc0_stg0_0 : Ref sig .tc).ty.Contents (Elt F)) : (dats m ρ 0 c).before (0 : Fin 1) t0_0 d = xAt m ρ c := by
  unfold Pipeline.Dat.before; rw [if_pos (by decide)]; rfl

/-- At the start a device owes its 28 payments. -/
theorem owes_open : (dats m ρ 0 c).owesAt () t0_0.castSucc ⊢ ow (F := F) c 28 := by
  unfold Pipeline.Dat.owesAt Pipeline.owesWithin ow
  iintro ⟨%W, -, H⟩
  iexists W; iexact H
/-- At the end it owes nothing. -/
theorem owes_close : ow (F := F) c 0 ⊢ (dats m ρ 0 c).owesAt () t0_0.succ := by
  unfold Pipeline.Dat.owesAt Pipeline.owesWithin ow
  iintro ⟨%W, H⟩
  iexists W
  isplitr; · ipureintro; exact fun _ _ => Or.inl trivial
  iexact H

/-- What the launch hands the body is where its line starts. -/
theorem pre_start : bodyPre m ρ c ⊢ iprop(env m ρ ∗ start m ρ c) := by
  unfold bodyPre Φ₀ given scratch start
  iintro ⟨⟨⟨HE, Ht, Hp, Hb, Hc, Hw, Ho, Hg, Hbox⟩, Hst, Hown, Hbuf⟩, HO, ⟨%d, Hx⟩⟩
  ihave Hx := (Entails.of_eq (congrArg (stg (F := F) c cc0_stg0_0) (before_x m ρ c d))) $$ Hx
  ihave Hx := (hold_x c _) $$ Hx
  ihave HO := (owes_open m ρ c) $$ HO
  isplitl [HE]; · iexact HE
  isplitl [HO]; · iexact HO
  isplitl [Ht]; · iexact Ht
  isplitl [Hp]; · iexact Hp
  isplitl [Hb]; · iexact Hb
  isplitl [Hc]; · iexact Hc
  isplitl [Hw]; · iexact Hw
  isplitl [Ho]; · iexact Ho
  isplitl [Hg]; · iexact Hg
  isplitl [Hbox]; · iexact Hbox
  isplitl [Hx]; · iexact Hx
  isplitl [Hst]; · iexact Hst
  isplitl [Hown]; · iexact Hown
  iexact Hbuf

/-- Where the line ends is what the launch asks back. -/
theorem final_post : final m ρ c ⊢ bodyPost m ρ c := by
  unfold bodyPost Φ₁ result scratch final
  iintro ⟨HO, Ho, Hw, Hx, Hst, Hown, Hbuf, Hb, Hz⟩
  ihave Hx := (x_hold c _) $$ Hx
  ihave HO := (owes_close m ρ c) $$ HO
  isplitl [Ho Hw Hst Hown Hbuf Hb Hz]
  · isplitl [Ho Hw]
    · isplitl [Ho]; · iexact Ho
      iexact Hw
    isplitl [Hst Hown Hbuf]
    · isplitl [Hst]; · iexact Hst
      isplitl [Hown]; · iexact Hown
      iexact Hbuf
    isplitl [Hb]; · iexact Hb
    iexact Hz
  isplitl [HO]; · iexact HO
  iexact Hx

/-- The body does at its one step what the launch asks of it. -/
theorem body_obligation (c : Dev nD) : Pipeline.BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (F := F) (Memref.whole cc0_stg0_0) (Memref.isWhole_whole _) (Memref.whole main_arg1) (Memref.isWhole_whole _) (Memref.whole main_v1_0)
      (Memref.isWhole_whole _) (Memref.whole main_v1_1) (Memref.isWhole_whole _) (Memref.whole main_v1_2) (Memref.isWhole_whole _)
      (Memref.whole main_v1_3) (Memref.isWhole_whole _) (Memref.whole main_v1_4) (Memref.isWhole_whole _) (Memref.whole main_v1_5)
      (Memref.isWhole_whole _) (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6 cc0_scratch7 cc0_scratch8
      cc0_scratch9 cc0_scratch10 cc0_scratch11 cc0_scratch12 cc0_scratch13) (fun _ => bodyPost m ρ c)
  rw [body_eq]
  exact (pre_start m ρ c).trans ((line_wp m ρ c).trans (wp_mono _ _ _ fun _ => final_post m ρ c))

/-! ## The launch's side conditions -/

/-- Each array of the pipeline is held in full. -/
theorem share_eq (w : Fin cfg0.W) : (dats m ρ 0 c).share w = fullShare := by unfold Pipeline.Dat.share; split <;> rfl

/-- What the launch deals a device is what its body is given. -/
theorem given_intro :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(given m ρ c ∗ emp) := by
  rw [Pipeline.unscopedRestP_none, unscopedRest0_eq]
  iintro ⟨⟨Hw, Ho, Hg0, Hg1, Hg2, Hg3, Hbox⟩, Hlev, Hcr, -, HG⟩
  ihave Hc := (creds (F := F) c) $$ Hcr
  icases Hc with ⟨Hb, Hc⟩
  imodintro
  unfold given G' env
  icases HG with ⟨HK, Hp, Ht⟩
  isplitl
  · isplitl [HK Hlev]
    · isplitl [HK]; · iexact HK
      iexact Hlev
    isplitl [Ht]; · iexact Ht
    isplitl [Hp]; · iexact Hp
    isplitl [Hb]; · iexact Hb
    isplitl [Hc]; · iexact Hc
    isplitl [Hw]; · iexact Hw
    isplitl [Ho]; · iapply (any_whole c outM (Memref.isWhole_whole _) _); iexact Ho
    isplitl [Hg0 Hg1 Hg2 Hg3]
    · isplitl [Hg0]; · iapply (any_whole c G0 (Memref.isWhole_whole _) _); iexact Hg0
      isplitl [Hg1]; · iapply (any_whole c G1 (Memref.isWhole_whole _) _); iexact Hg1
      isplitl [Hg2]; · iapply (any_whole c G2 (Memref.isWhole_whole _) _); iexact Hg2
      iapply (any_whole c G3 (Memref.isWhole_whole _) _); iexact Hg3
    iapply (any_whole c boxM (Memref.isWhole_whole _) _); iexact Hbox
  · iempintro

/-- With the scratch arrays this is the body's state before its step. -/
theorem phi0_intro :
    iprop(given m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, ⟨%f0, H0⟩, ⟨%f1, H1⟩, ⟨%f2, H2⟩⟩
  isplitl [Hs]; · iexact Hs
  isplitl [H0]; · iapply (any_whole c stM (Memref.isWhole_whole _) _); iexact H0
  isplitl [H1]; · iapply (any_whole c ownM (Memref.isWhole_whole _) _); iexact H1
  iapply (any_whole c bufM (Memref.isWhole_whole _) _); iexact H2

/-- The scratch arrays are given back. -/
theorem scratch_back : scratch (F := F) c ⊢ Pipeline.scopedRest cfg0.spec c := by
  rw [scopedRest0_eq]
  unfold scratch any
  rw [(Memref.isWhole_whole cc0_scratch0).set_eq_univ, (Memref.isWhole_whole cc0_scratch1).set_eq_univ, (Memref.isWhole_whole cc0_scratch2).set_eq_univ]

/-- The body's state after its step is the result, the counters at zero and the scratch arrays. -/
theorem phi1_exit :
    (dats m ρ 0 c).Φ (Fin.last cfg0.N) ⊢ iprop((result m ρ c ∗ unscopedSems0 c) ∗ Pipeline.ownSems0 osem c ∗ Pipeline.scopedRest cfg0.spec c) := by
  rw [show (dats m ρ 0 c).Φ (Fin.last cfg0.N) = Φ₁ m ρ c from rfl, ownSems0_eq, unscopedSems0_eq]
  unfold Φ₁
  iintro ⟨Hr, Hs, Hb, Hz⟩
  ihave Hs := (scratch_back (F := F) c) $$ Hs
  isplitl [Hr Hb]
  · isplitl [Hr]; · iexact Hr
    iexact Hb
  isplitl [Hz]; · iexact Hz
  iexact Hs

/-- Every payment has a level above zero. -/
theorem plv_pos : ∀ j : Fin 28, 0 < plv (kOf j) := by decide +kernel

/-- The pipeline's own waits lie below every payment owed. -/
theorem waits : (levAts L lv : sProp 𝕄) ⊢ Pipeline.cellsWaits cfgs (dats m ρ) () 0 c :=
  Pipeline.cellsWaits_intro cfgs (dats m ρ) () 0 c fun w s t => by
    have hw : ∀ (w : Fin 1) (s : Fin (spec0 w).nbuf), (spec0 w).sem s = (0 : Fin 52) := by decide
    have h0 : ∀ n, n ≤ 28 → (levAts L lv : sProp 𝕄) ⊢ MayWait (c : Thread nD τ) (.dma ((spec0 w).sem s)) () (owr c n) := fun n hn => by
      rw [hw]; exact mayWait c _ n fun j hj => plv_pos ⟨j, by omega⟩
    rcases t with ⟨_ | _, ht⟩
    · exact h0 28 le_rfl
    · exact h0 0 (Nat.zero_le _)

/-! ## The run -/

/-- What a finished device shows: its result, its columns unchanged, its free semaphores at zero. -/
def QY (s : MemSt nD τ sig (Elt F)) : Prop :=
  s.mem ((c : Thread nD τ).loc main_v1_0) = OUT m ρ c ∧ s.mem ((c : Thread nD τ).loc main_arg1) = m ((c : Thread nD τ).loc main_arg1)
    ∧ ∀ sm : SemLoc sig, sm.isScoped .tc = false → s.sem ((c : Thread nD τ), sm) = 0

/-- In the last state the result array holds the blocks, and the second argument is as it was. -/
theorem result_read (s' : Phys nD τ sig (Elt F)) :
    iprop(result m ρ c ∗ SI s') ⊢ (iprop(⌜s'.mem.mem ((c : Thread nD τ).loc main_v1_0) = OUT m ρ c
      ∧ s'.mem.mem ((c : Thread nD τ).loc main_arg1) = m ((c : Thread nD τ).loc main_arg1)⌝ ∗ SI s') : sProp 𝕄) := by
  unfold result hold
  rw [(Memref.isWhole_whole main_v1_0).set_eq_univ]
  iintro ⟨⟨⟨%f, Ho, %hf⟩, Hw⟩, HSI⟩
  ihave %h1 := (SI_pointsTo_agree (st := s')) $$ [HSI Ho]
  · isplitl [HSI]; · iexact HSI
    iexact Ho
  ihave %h2 := (SI_pointsTo_agree (st := s')) $$ [HSI Hw]
  · isplitl [HSI]; · iexact HSI
    iexact Hw
  isplitr
  · ipureintro
    exact ⟨(funext fun i => h1 i (Finset.mem_univ _)).trans hf, funext fun i => h2 i (Finset.mem_univ _)⟩
  iexact HSI

/-- What a device holds at the end says what the last memory is. -/
theorem exit_read (s' : Phys nD τ sig (Elt F)) :
    iprop((result m ρ c ∗ unscopedSems0 c) ∗ emp ∗ SI s') ⊢ (iprop(|={Set.univ}=> (⌜QY m ρ c s'.mem⌝ ∗ SI s')) : sProp 𝕄) := by
  iintro ⟨⟨Hr, Hu⟩, -, HSI⟩
  ihave H := (result_read m ρ c s') $$ [Hr HSI]
  · isplitl [Hr]; · iexact Hr
    iexact HSI
  icases H with ⟨%h, HSI⟩
  imod (Pipeline.unscopedSems0_read (X := unscopedSems0 c) (c := c) fupd_intro s') $$ [Hu HSI] with ⟨%hs, HSI⟩
  · isplitl [Hu]; · iexact Hu
    iexact HSI
  imodintro
  isplitr
  · ipureintro; exact ⟨h.1, h.2, hs⟩
  iexact HSI

/-- Every run, from any memory with the counters at zero, ends, with each device's result as computed, the arguments as
    they were and every counter at zero. -/
def Done (r : PUnit × MemSt nD τ sig (Elt F)) : Prop :=
  (∀ c : Dev nD, r.2.mem ((c : Thread nD τ).loc main_v1_0) = OUT m ρ c
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0

/-- Every run on the eight devices ends with each result made of the blocks, the arguments as they were and every counter at zero. -/
theorem run_main : θ_run defs (onTc (τ := τ) (main (F := F))) (s₀ m ρ) (Done m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      iintro Hu
      ihave H := launch_split $$ Hu
      icases H with ⟨HP, HX⟩
      imod (fund_ring m ρ) $$ HX with HG
      imodintro
      isplitl [HP] <;> iassumption)
    (hglob := glob m ρ)
    (hA := fun _ _ => rfl) (hpf := fun _ k => k.elim0)
    (X := given m ρ) (Y := fun c => iprop(result m ρ c ∗ unscopedSems0 c)) (Z := fun _ => iprop(emp))
    (hX := given_intro m ρ) (hin := phi0_intro m ρ) (hout := phi1_exit m ρ)
    (QY := fun c s => QY m ρ c s)
    (hY := fun c s' => exit_read m ρ c s')
    (hQ := fun _ h hs => ⟨fun c => ⟨(h c).2.2.1, ((h c).1 (0 : Fin 1)).trans ((dats (F := F) m ρ 0 c).arrAt_in (0 : Fin 1) rfl _), (h c).2.2.2.1⟩,
      sem_eq_zero hs fun c => (h c).2.2.2.2⟩)

end Cert.KernelIdeal.Prot
-- ==== Proof.Value.lean ====
/-
What the kernel computes over the extended reals: its blocks of the result are the reference's.
-/
module

public import proofs.«01_k».proof.Proof.KernelIdeal.Run
public import proofs.«01_k».proof.Proof.Gen.ReferenceIdeal.Run
public import Idealize.ShloMosaic.Lib.Pointwise
public import Idealize.ShloMosaic.Lib.Layout
public import Idealize.ShloMosaic.PureOps.Ideal.Laws

@[expose] public section

set_option maxRecDepth 16384

noncomputable section

namespace Cert.Value

open Idealize.ShloMosaic Idealize.ShloMosaic.TcCoe Idealize.SL.Sem

/-- The activation: `y/2 · (1 + tanh (√(2/π) · (y + a·y³)))`, its constants the words both programs carry. -/
def act (y : EReal) : EReal :=
  (Ideal.ofBits FTy.f32 0x3F000000#32 * y) * (1 + Ideal.tanh (Ideal.ofBits FTy.f32 0x3F4C422A#32 * (y + Ideal.ofBits FTy.f32 0x3D372713#32 * (y * y * y))))

/-- A row of an array by a column of another, over the 8192 they share. -/
def rowCol {M N : ℕ} (x : (⟨2, ![M, 8192]⟩ : Shape).Idx → EReal) (w : (⟨2, ![8192, N]⟩ : Shape).Idx → EReal) (r : Fin M) (q : Fin N) : EReal :=
  ∑ k : Fin 8192, x (ix2 r k) * w (ix2 k q)

/-- The kernel's order of the cube's factors gives the same. -/
theorem cube (a y : EReal) : a * y * y * y = a * (y * y * y) := by
  rw [mul_assoc a y y, mul_assoc a (y * y) y]

open Cert.KernelIdeal Cert.KernelIdeal.Gen Cert.KernelIdeal.Prot in
/-- An entry of a block: the activation of a row by a column. -/
theorem blk_at (m : (ℓ : Loc nD τ sig) → Buf (Elt Ideal) ℓ) (ρ : Dev nD → PrngReg) (j o : Dev nD) (r : Fin 1024) (q : Fin 512) :
    blkV (F := Ideal) m ρ j o (ix2 r q) = act (rowCol (M := 1024) (N := 512) (xAt m ρ j) (wAt m o) r q) := by
  unfold blkV k0_pay4 k0_pay3 k0_pay2 k0_pay1 act rowCol
  pointwise
  rw [cube]

open Cert.KernelIdeal Cert.KernelIdeal.Gen Cert.KernelIdeal.Prot in
/-- The launch stages each device's whole rows. -/
theorem xAt_eq (m : (ℓ : Loc nD τ sig) → Buf (Elt Ideal) ℓ) (ρ : Dev nD → PrngReg) (c : Dev nD) :
    xAt m ρ c = m ((c : Thread nD τ).loc main_arg0) := by
  funext i
  show m ((c : Thread nD τ).loc main_arg0) _ = _
  congr 1
  funext a
  apply Fin.ext
  match a with
  | ⟨0, _⟩ => show 0 * 1024 + 1 * (i 0).val = (i 0).val; omega
  | ⟨1, _⟩ => show 0 * 8192 + 1 * (i 1).val = (i 1).val; omega

open Cert.ReferenceIdeal Cert.ReferenceIdeal.Gen in
/-- The reference's result as a function of its arguments. -/
def ref (x : S8192x8192.Idx → Ideal .f32) (w : S8192x4096.Idx → Ideal .f32) : S8192x4096.Idx → Ideal .f32 :=
  fun i => act (rowCol (M := 8192) (N := 4096) x w (i 0) (i 1))

open Cert.ReferenceIdeal Cert.ReferenceIdeal.Gen in
/-- Every run of the reference leaves that result, its arguments as they were. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c => ⟨(h c).1.trans (by
    funext i
    unfold ref act rowCol
    pointwise), (h c).2⟩)
    (Cert.ReferenceIdeal.Value.run (F := Ideal) m ρ)

open Cert.KernelIdeal Cert.KernelIdeal.Gen Cert.KernelIdeal.Prot in
/-- A device's result is its columns of the reference's, when its arguments are its parts of the reference's. -/
theorem out_eq (m : (ℓ : Loc nD τ sig) → Buf (Elt Ideal) ℓ) (ρ : Dev nD → PrngReg) (x : Cert.ReferenceIdeal.S8192x8192.Idx → Ideal .f32)
    (w : Cert.ReferenceIdeal.S8192x4096.Idx → Ideal .f32)
    (hx : ∀ c : Dev nD, m ((c : Thread nD τ).loc main_arg0) = Layout.block ⟨2, ![1024, 8192]⟩ ⟨2, ![8192, 8192]⟩ 0 8 c x)
    (hw : ∀ c : Dev nD, m ((c : Thread nD τ).loc main_arg1) = Layout.block ⟨2, ![8192, 512]⟩ ⟨2, ![8192, 4096]⟩ 1 8 c w) (c : Dev nD) :
    OUT (F := Ideal) m ρ c = Layout.block ⟨2, ![8192, 512]⟩ ⟨2, ![8192, 4096]⟩ 1 8 c (ref x w) := by
  funext i
  have hi : (i 0).val < 8192 := (i 0).isLt
  have h := blk_at m ρ ⟨(i 0).val / 1024, by show _ < 8; omega⟩ c ⟨(i 0).val % 1024, Nat.mod_lt _ (by decide)⟩ (i 1)
  have e : OUT (F := Ideal) m ρ c i = blkV (F := Ideal) m ρ ⟨(i 0).val / 1024, by show _ < 8; omega⟩ c (ix2 ⟨(i 0).val % 1024, Nat.mod_lt _ (by decide)⟩ (i 1)) := by
    unfold OUT; congr 1; funext a; match a with | ⟨0, _⟩ => rfl | ⟨1, _⟩ => rfl
  rw [e, h, Layout.block_apply]
  unfold ref rowCol
  congr 1
  refine Finset.sum_congr rfl fun k _ => ?_
  congr 1
  · rw [xAt_eq, hx, Layout.block_apply]
    congr 1; funext a; apply Fin.ext
    match a with
    | ⟨0, _⟩ => show (i 0).val / 1024 * 1024 + (i 0).val % 1024 = (i 0).val; omega
    | ⟨1, _⟩ => rfl
  · unfold wAt; rw [hw, Layout.block_apply]
    congr 1; funext a; apply Fin.ext
    match a with
    | ⟨0, _⟩ => rfl
    | ⟨1, _⟩ => rfl

end Cert.Value
-- ==== Proof.lean ====
/-
The certificate for the ring kernel: its three frames, that idealizing it changes nothing, and that over the extended
reals each device's result is its columns of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value
public import Idealize.ShloMosaic.Adequacy
public import Idealize.ShloMosaic.Init

@[expose] public section

set_option maxRecDepth 16384

noncomputable section

namespace Cert.Proof

open Idealize.ShloMosaic Idealize.SL.Sem

/-- The kernel runs over the machine's floats, keeps its arguments and leaves every counter at zero. -/
theorem frame_Kernel : Cert.quiescent_Kernel := by
  intro m ρ _
  exact (θ_run Cert.Kernel.defs _ _).mono (fun _ h => ⟨fun c => (h.1 c).2, h.2⟩) (Cert.Kernel.Prot.run_main (F := Bits) m ρ)

/-- So it does over the extended reals. -/
theorem frame_KernelIdeal : Cert.quiescent_KernelIdeal := by
  intro m ρ _
  exact (θ_run Cert.KernelIdeal.defs _ _).mono (fun _ h => ⟨fun c => (h.1 c).2, h.2⟩) (Cert.KernelIdeal.Prot.run_main (F := Ideal) m ρ)

/-- And the reference; it has no semaphore. -/
theorem frame_ReferenceIdeal : Cert.quiescent_ReferenceIdeal := by
  intro m ρ _
  refine (θ_run Cert.ReferenceIdeal.defs _ _).mono (fun _ h => ⟨fun c => (h c).2, ?_⟩) (Cert.Value.run_ref m ρ)
  funext g
  rcases g with ⟨_, s | s⟩ <;> exact s.elim0

/-- Over the extended reals each device's result is its columns of the reference's. -/
theorem value : Cert.algebraic_KernelIdeal_ReferenceIdeal := by
  intro m ρ m' ρ' _ hargs
  refine ⟨Cert.Value.ref (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c).1.trans (Cert.Value.out_eq m ρ _ _ (fun c => (hargs c).1) (fun c => (hargs c).2) c), (h.1 c).2⟩)
      (Cert.KernelIdeal.Prot.run_main (F := Ideal) m ρ)
  · exact (θ_run Cert.ReferenceIdeal.defs _ _).mono (fun _ h => h 0) (Cert.Value.run_ref m' ρ')

/-- Every claim of the certificate. -/
theorem claim : Cert.Claim :=
  ⟨Cert.Kernel.Gen.facts, Cert.KernelIdeal.Gen.facts, Cert.ReferenceIdeal.Gen.facts,
    frame_Kernel, frame_KernelIdeal, frame_ReferenceIdeal, trivial, value⟩

end Cert.Proof

end
